-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S4x256x4096 : Shape := ⟨3, ![4, 256, 4096]⟩
abbrev S1x128 : Shape := ⟨2, ![1, 128]⟩
abbrev S8x128 : Shape := ⟨2, ![8, 128]⟩
abbrev S4 : Shape := ⟨1, ![4]⟩
abbrev S8 : Shape := ⟨1, ![8]⟩
abbrev S_ : Shape := ⟨0, ![]⟩
abbrev S256x4096 : Shape := ⟨2, ![256, 4096]⟩
abbrev S1x256x4096 : Shape := ⟨3, ![1, 256, 4096]⟩
abbrev S1 : Shape := ⟨1, ![1]⟩
abbrev S256x256 : Shape := ⟨2, ![256, 256]⟩
abbrev S1x256x256 : Shape := ⟨3, ![1, 256, 256]⟩
abbrev S1x1x1 : Shape := ⟨3, ![1, 1, 1]⟩
abbrev S128 : Shape := ⟨1, ![128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S4x256x4096, .f32⟩
  | .local _ .vmem, ⟨4, _⟩ => ⟨S4x256x4096, .f32⟩
  | .local _ .vmem, ⟨5, _⟩ => ⟨S1x128, .f32⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v35 : BitVec 32 := Scalar.addi v2 c1_i32_17
  let c8_i32_18 : BitVec 32 := 8#32
  let c0_i32_19 : BitVec 32 := 0#32
  let v36 : BitVec 1 := Scalar.cmpi .eq c8_i32_18 c0_i32_19
  let c1_i32_20 : BitVec 32 := 1#32
  let v37 : BitVec 32 := Scalar.select v36 c1_i32_20 c8_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c1_i32_25 : BitVec 32 := 1#32
  let v46 : BitVec 32 := Scalar.muli v45 c1_i32_25
  let v47 : BitVec 32 := Scalar.addi c0_i32_26 v46
  v47.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v48 : BitVec 32 := Scalar.addi v2 c2_i32
  let c8_i32_27 : BitVec 32 := 8#32
  let c0_i32_28 : BitVec 32 := 0#32
  let v49 : BitVec 1 := Scalar.cmpi .eq c8_i32_27 c0_i32_28
  let c1_i32_29 : BitVec 32 := 1#32
  let v50 : BitVec 32 := Scalar.select v49 c1_i32_29 c8_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_34 : BitVec 32 := 1#32
  let v59 : BitVec 32 := Scalar.muli v58 c1_i32_34
  let v60 : BitVec 32 := Scalar.addi c0_i32_35 v59
  v60.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v61 : BitVec 32 := Scalar.addi v2 c3_i32
  let c8_i32_36 : BitVec 32 := 8#32
  let c0_i32_37 : BitVec 32 := 0#32
  let v62 : BitVec 1 := Scalar.cmpi .eq c8_i32_36 c0_i32_37
  let c1_i32_38 : BitVec 32 := 1#32
  let v63 : BitVec 32 := Scalar.select v62 c1_i32_38 c8_i32_36
  let v64 : BitVec 32 := Scalar.remsi v61 v63
  let c0_i32_40 : BitVec 32 := 0#32
  let v66 : BitVec 1 := Scalar.cmpi .slt v64 c0_i32_40
  let c0_i32_41 : BitVec 32 := 0#32
  let v67 : BitVec 1 := Scalar.cmpi .slt v63 c0_i32_41
  let v68 : BitVec 1 := Scalar.xori v66 v67
  let c0_i32_39 : BitVec 32 := 0#32
  let v65 : BitVec 1 := Scalar.cmpi .ne v64 c0_i32_39
  let v69 : BitVec 1 := Scalar.andi v68 v65
  let v70 : BitVec 32 := Scalar.addi v64 v63
  let v71 : BitVec 32 := Scalar.select v69 v70 v64
  let c1_i32_43 : BitVec 32 := 1#32
  let v72 : BitVec 32 := Scalar.muli v71 c1_i32_43
  let v73 : BitVec 32 := Scalar.addi c0_i32_44 v72
  v73.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v74 : BitVec 32 := Scalar.addi v2 c4_i32_45
  let c8_i32_46 : BitVec 32 := 8#32
  let c0_i32_47 : BitVec 32 := 0#32
  let v75 : BitVec 1 := Scalar.cmpi .eq c8_i32_46 c0_i32_47
  let c1_i32_48 : BitVec 32 := 1#32
  let v76 : BitVec 32 := Scalar.select v75 c1_i32_48 c8_i32_46
  let v77 : BitVec 32 := Scalar.remsi v74 v76
  let c0_i32_50 : BitVec 32 := 0#32
  let v79 : BitVec 1 := Scalar.cmpi .slt v77 c0_i32_50
  let c0_i32_51 : BitVec 32 := 0#32
  let v80 : BitVec 1 := Scalar.cmpi .slt v76 c0_i32_51
  let v81 : BitVec 1 := Scalar.xori v79 v80
  let c0_i32_49 : BitVec 32 := 0#32
  let v78 : BitVec 1 := Scalar.cmpi .ne v77 c0_i32_49
  let v82 : BitVec 1 := Scalar.andi v81 v78
  let v83 : BitVec 32 := Scalar.addi v77 v76
  let v84 : BitVec 32 := Scalar.select v82 v83 v77
  let c1_i32_53 : BitVec 32 := 1#32
  let v85 : BitVec 32 := Scalar.muli v84 c1_i32_53
  let v86 : BitVec 32 := Scalar.addi c0_i32_54 v85
  v86.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v87 : BitVec 32 := Scalar.addi v2 c5_i32
  let c8_i32_55 : BitVec 32 := 8#32
  let c0_i32_56 : BitVec 32 := 0#32
  let v88 : BitVec 1 := Scalar.cmpi .eq c8_i32_55 c0_i32_56
  let c1_i32_57 : BitVec 32 := 1#32
  let v89 : BitVec 32 := Scalar.select v88 c1_i32_57 c8_i32_55
  let v90 : BitVec 32 := Scalar.remsi v87 v89
  let c0_i32_59 : BitVec 32 := 0#32
  let v92 : BitVec 1 := Scalar.cmpi .slt v90 c0_i32_59
  let c0_i32_60 : BitVec 32 := 0#32
  let v93 : BitVec 1 := Scalar.cmpi .slt v89 c0_i32_60
  let v94 : BitVec 1 := Scalar.xori v92 v93
  let c0_i32_58 : BitVec 32 := 0#32
  let v91 : BitVec 1 := Scalar.cmpi .ne v90 c0_i32_58
  let v95 : BitVec 1 := Scalar.andi v94 v91
  let v96 : BitVec 32 := Scalar.addi v90 v89
  let v97 : BitVec 32 := Scalar.select v95 v96 v90
  let c1_i32_62 : BitVec 32 := 1#32
  let v98 : BitVec 32 := Scalar.muli v97 c1_i32_62
  let v99 : BitVec 32 := Scalar.addi c0_i32_63 v98
  v99.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v100 : BitVec 32 := Scalar.addi v2 c6_i32
  let c8_i32_64 : BitVec 32 := 8#32
  let c0_i32_65 : BitVec 32 := 0#32
  let v101 : BitVec 1 := Scalar.cmpi .eq c8_i32_64 c0_i32_65
  let c1_i32_66 : BitVec 32 := 1#32
  let v102 : BitVec 32 := Scalar.select v101 c1_i32_66 c8_i32_64
  let v103 : BitVec 32 := Scalar.remsi v100 v102
  let c0_i32_68 : BitVec 32 := 0#32
  let v105 : BitVec 1 := Scalar.cmpi .slt v103 c0_i32_68
  let c0_i32_69 : BitVec 32 := 0#32
  let v106 : BitVec 1 := Scalar.cmpi .slt v102 c0_i32_69
  let v107 : BitVec 1 := Scalar.xori v105 v106
  let c0_i32_67 : BitVec 32 := 0#32
  let v104 : BitVec 1 := Scalar.cmpi .ne v103 c0_i32_67
  let v108 : BitVec 1 := Scalar.andi v107 v104
  let v109 : BitVec 32 := Scalar.addi v103 v102
  let v110 : BitVec 32 := Scalar.select v108 v109 v103
  let c1_i32_71 : BitVec 32 := 1#32
  let v111 : BitVec 32 := Scalar.muli v110 c1_i32_71
  let v112 : BitVec 32 := Scalar.addi c0_i32_72 v111
  v112.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v113 : BitVec 32 := Scalar.addi v2 c7_i32
  let c8_i32_73 : BitVec 32 := 8#32
  let c0_i32_74 : BitVec 32 := 0#32
  let v114 : BitVec 1 := Scalar.cmpi .eq c8_i32_73 c0_i32_74
  let c1_i32_75 : BitVec 32 := 1#32
  let v115 : BitVec 32 := Scalar.select v114 c1_i32_75 c8_i32_73
  let v116 : BitVec 32 := Scalar.remsi v113 v115
  let c0_i32_77 : BitVec 32 := 0#32
  let v118 : BitVec 1 := Scalar.cmpi .slt v116 c0_i32_77
  let c0_i32_78 : BitVec 32 := 0#32
  let v119 : BitVec 1 := Scalar.cmpi .slt v115 c0_i32_78
  let v120 : BitVec 1 := Scalar.xori v118 v119
  let c0_i32_76 : BitVec 32 := 0#32
  let v117 : BitVec 1 := Scalar.cmpi .ne v116 c0_i32_76
  let v121 : BitVec 1 := Scalar.andi v120 v117
  let v122 : BitVec 32 := Scalar.addi v116 v115
  let v123 : BitVec 32 := Scalar.select v121 v122 v116
  let c1_i32_80 : BitVec 32 := 1#32
  let v124 : BitVec 32 := Scalar.muli v123 c1_i32_80
  let v125 : BitVec 32 := Scalar.addi c0_i32_81 v124
  v125.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_97 : BitVec 32 := 1#32
  let v138 : BitVec 32 := Scalar.muli v19 c1_i32_97
  let v139 : BitVec 32 := Scalar.addi c0_i32_98 v138
  v139.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_107 : BitVec 32 := 1#32
  let v148 : BitVec 32 := Scalar.muli v33 c1_i32_107
  let v149 : BitVec 32 := Scalar.addi c0_i32_108 v148
  v149.toNat
def k0_off1 (d0 : Dev nD) (c0_i32_113 : BitVec 32) (c0_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v158 : BitVec 32 := Scalar.subi v5 c0_i32_113
  let c8_i32_114 : BitVec 32 := 8#32
  let c0_i32_115 : BitVec 32 := 0#32
  let v159 : BitVec 1 := Scalar.cmpi .eq c8_i32_114 c0_i32_115
  let c1_i32_116 : BitVec 32 := 1#32
  let v160 : BitVec 32 := Scalar.select v159 c1_i32_116 c8_i32_114
  let v161 : BitVec 32 := Scalar.remsi v158 v160
  let c0_i32_118 : BitVec 32 := 0#32
  let v163 : BitVec 1 := Scalar.cmpi .slt v161 c0_i32_118
  let c0_i32_119 : BitVec 32 := 0#32
  let v164 : BitVec 1 := Scalar.cmpi .slt v160 c0_i32_119
  let v165 : BitVec 1 := Scalar.xori v163 v164
  let c0_i32_117 : BitVec 32 := 0#32
  let v162 : BitVec 1 := Scalar.cmpi .ne v161 c0_i32_117
  let v166 : BitVec 1 := Scalar.andi v165 v162
  let v167 : BitVec 32 := Scalar.addi v161 v160
  let v168 : BitVec 32 := Scalar.select v166 v167 v161
  let c4_i32_120 : BitVec 32 := 4#32
  let v169 : BitVec 1 := Scalar.cmpi .slt v168 c4_i32_120
  let c11_i32_121 : BitVec 32 := 11#32
  let v170 : BitVec 32 := Scalar.subi c11_i32_121 v168
  let v171 : BitVec 32 := Scalar.select v169 v168 v170
  let c512_i32 : BitVec 32 := 512#32
  let v189 : BitVec 32 := Scalar.muli v171 c512_i32
  let v190 : BitVec 32 := Scalar.addi v189 c0_i32_134
  let v191 : Index := Scalar.indexCast v190
  let c0_135 : Index := 0#32
  ![v191.toNat, 0]
def k0_off1_at (r : Fin 8) : BitVec 32 × BitVec 32 :=
  if r.val < 4 then
    if r.val < 2 then
      if r.val < 1 then
        (0#32, 0#32)
      else
        (1#32, 0#32)
    else
      if r.val < 3 then
        (2#32, 0#32)
      else
        (3#32, 0#32)
  else
    if r.val < 6 then
      if r.val < 5 then
        (4#32, 0#32)
      else
        (5#32, 0#32)
    else
      if r.val < 7 then
        (6#32, 0#32)
      else
        (1#32, 256#32)
def k0_off2 (d0 : Dev nD) (c0_i32_122 : BitVec 32) (c256_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v172 : BitVec 32 := Scalar.addi v5 c0_i32_122
  let c8_i32_123 : BitVec 32 := 8#32
  let c0_i32_124 : BitVec 32 := 0#32
  let v173 : BitVec 1 := Scalar.cmpi .eq c8_i32_123 c0_i32_124
  let c1_i32_125 : BitVec 32 := 1#32
  let v174 : BitVec 32 := Scalar.select v173 c1_i32_125 c8_i32_123
  let v175 : BitVec 32 := Scalar.remsi v172 v174
  let c0_i32_127 : BitVec 32 := 0#32
  let v177 : BitVec 1 := Scalar.cmpi .slt v175 c0_i32_127
  let c0_i32_128 : BitVec 32 := 0#32
  let v178 : BitVec 1 := Scalar.cmpi .slt v174 c0_i32_128
  let v179 : BitVec 1 := Scalar.xori v177 v178
  let c0_i32_126 : BitVec 32 := 0#32
  let v176 : BitVec 1 := Scalar.cmpi .ne v175 c0_i32_126
  let v180 : BitVec 1 := Scalar.andi v179 v176
  let v181 : BitVec 32 := Scalar.addi v175 v174
  let v182 : BitVec 32 := Scalar.select v180 v181 v175
  let c4_i32_129 : BitVec 32 := 4#32
  let v183 : BitVec 1 := Scalar.cmpi .slt v182 c4_i32_129
  let c11_i32_130 : BitVec 32 := 11#32
  let v184 : BitVec 32 := Scalar.subi c11_i32_130 v182
  let v185 : BitVec 32 := Scalar.select v183 v182 v184
  let c512_i32_142 : BitVec 32 := 512#32
  let v202 : BitVec 32 := Scalar.muli v185 c512_i32_142
  let v203 : BitVec 32 := Scalar.addi v202 c256_i32
  let v204 : Index := Scalar.indexCast v203
  let c0_143 : Index := 0#32
  ![v204.toNat, 0]
def k0_off2_at (r : Fin 8) : BitVec 32 × BitVec 32 :=
  if r.val < 4 then
    if r.val < 2 then
      if r.val < 1 then
        (0#32, 256#32)
      else
        (1#32, 256#32)
    else
      if r.val < 3 then
        (2#32, 256#32)
      else
        (3#32, 256#32)
  else
    if r.val < 6 then
      if r.val < 5 then
        (4#32, 256#32)
      else
        (5#32, 256#32)
    else
      if r.val < 7 then
        (6#32, 256#32)
      else
        (1#32, 0#32)
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_187 : BitVec 32 := 1#32
  let v240 : BitVec 32 := Scalar.muli v19 c1_i32_187
  let v241 : BitVec 32 := Scalar.addi c0_i32_188 v240
  v241.toNat
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_197 : BitVec 32 := 1#32
  let v250 : BitVec 32 := Scalar.muli v33 c1_i32_197
  let v251 : BitVec 32 := Scalar.addi c0_i32_198 v250
  v251.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_278 : BitVec 32 := 1#32
  let v342 : BitVec 32 := Scalar.muli v19 c1_i32_278
  let v343 : BitVec 32 := Scalar.addi c0_i32_279 v342
  v343.toNat
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_288 : BitVec 32 := 1#32
  let v352 : BitVec 32 := Scalar.muli v33 c1_i32_288
  let v353 : BitVec 32 := Scalar.addi c0_i32_289 v352
  v353.toNat
def k0_dev14 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_369 : BitVec 32 := 1#32
  let v444 : BitVec 32 := Scalar.muli v19 c1_i32_369
  let v445 : BitVec 32 := Scalar.addi c0_i32_370 v444
  v445.toNat
def k0_dev15 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_379 : BitVec 32 := 1#32
  let v454 : BitVec 32 := Scalar.muli v33 c1_i32_379
  let v455 : BitVec 32 := Scalar.addi c0_i32_380 v454
  v455.toNat
def k0_dev16 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_460 : BitVec 32 := 1#32
  let v546 : BitVec 32 := Scalar.muli v19 c1_i32_460
  let v547 : BitVec 32 := Scalar.addi c0_i32_461 v546
  v547.toNat
def k0_dev17 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_470 : BitVec 32 := 1#32
  let v556 : BitVec 32 := Scalar.muli v33 c1_i32_470
  let v557 : BitVec 32 := Scalar.addi c0_i32_471 v556
  v557.toNat
def k0_dev18 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_552 : BitVec 32 := 1#32
  let v648 : BitVec 32 := Scalar.muli v19 c1_i32_552
  let v649 : BitVec 32 := Scalar.addi c0_i32_553 v648
  v649.toNat
def k0_dev19 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_562 : BitVec 32 := 1#32
  let v658 : BitVec 32 := Scalar.muli v33 c1_i32_562
  let v659 : BitVec 32 := Scalar.addi c0_i32_563 v658
  v659.toNat
def k0_dev20 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_644 : BitVec 32 := 1#32
  let v750 : BitVec 32 := Scalar.muli v19 c1_i32_644
  let v751 : BitVec 32 := Scalar.addi c0_i32_645 v750
  v751.toNat
def k0_dev21 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_654 : BitVec 32 := 1#32
  let v760 : BitVec 32 := Scalar.muli v33 c1_i32_654
  let v761 : BitVec 32 := Scalar.addi c0_i32_655 v760
  v761.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v883 : Index := Scalar.indexCast v2
  let c0_752 : Index := 0#32
  ![v883.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_764 : BitVec 32 := 0#32
  ![v2.toNat, 0]
def k0_dev22 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_753 : BitVec 32 := 1#32
  let v887 : BitVec 32 := Scalar.addi v2 c1_i32_753
  let c8_i32_754 : BitVec 32 := 8#32
  let c0_i32_755 : BitVec 32 := 0#32
  let v888 : BitVec 1 := Scalar.cmpi .eq c8_i32_754 c0_i32_755
  let c1_i32_756 : BitVec 32 := 1#32
  let v889 : BitVec 32 := Scalar.select v888 c1_i32_756 c8_i32_754
  let v890 : BitVec 32 := Scalar.remsi v887 v889
  let c0_i32_758 : BitVec 32 := 0#32
  let v892 : BitVec 1 := Scalar.cmpi .slt v890 c0_i32_758
  let c0_i32_759 : BitVec 32 := 0#32
  let v893 : BitVec 1 := Scalar.cmpi .slt v889 c0_i32_759
  let v894 : BitVec 1 := Scalar.xori v892 v893
  let c0_i32_757 : BitVec 32 := 0#32
  let v891 : BitVec 1 := Scalar.cmpi .ne v890 c0_i32_757
  let v895 : BitVec 1 := Scalar.andi v894 v891
  let v896 : BitVec 32 := Scalar.addi v890 v889
  let v897 : BitVec 32 := Scalar.select v895 v896 v890
  let c1_i32_762 : BitVec 32 := 1#32
  let v898 : BitVec 32 := Scalar.muli v897 c1_i32_762
  let v899 : BitVec 32 := Scalar.addi c0_i32_763 v898
  v899.toNat
def k0_dev23 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_767 : BitVec 32 := 2#32
  let v906 : BitVec 32 := Scalar.addi v2 c2_i32_767
  let c8_i32_768 : BitVec 32 := 8#32
  let c0_i32_769 : BitVec 32 := 0#32
  let v907 : BitVec 1 := Scalar.cmpi .eq c8_i32_768 c0_i32_769
  let c1_i32_770 : BitVec 32 := 1#32
  let v908 : BitVec 32 := Scalar.select v907 c1_i32_770 c8_i32_768
  let v909 : BitVec 32 := Scalar.remsi v906 v908
  let c0_i32_772 : BitVec 32 := 0#32
  let v911 : BitVec 1 := Scalar.cmpi .slt v909 c0_i32_772
  let c0_i32_773 : BitVec 32 := 0#32
  let v912 : BitVec 1 := Scalar.cmpi .slt v908 c0_i32_773
  let v913 : BitVec 1 := Scalar.xori v911 v912
  let c0_i32_771 : BitVec 32 := 0#32
  let v910 : BitVec 1 := Scalar.cmpi .ne v909 c0_i32_771
  let v914 : BitVec 1 := Scalar.andi v913 v910
  let v915 : BitVec 32 := Scalar.addi v909 v908
  let v916 : BitVec 32 := Scalar.select v914 v915 v909
  let c1_i32_776 : BitVec 32 := 1#32
  let v917 : BitVec 32 := Scalar.muli v916 c1_i32_776
  let v918 : BitVec 32 := Scalar.addi c0_i32_777 v917
  v918.toNat
def k0_dev24 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_781 : BitVec 32 := 3#32
  let v925 : BitVec 32 := Scalar.addi v2 c3_i32_781
  let c8_i32_782 : BitVec 32 := 8#32
  let c0_i32_783 : BitVec 32 := 0#32
  let v926 : BitVec 1 := Scalar.cmpi .eq c8_i32_782 c0_i32_783
  let c1_i32_784 : BitVec 32 := 1#32
  let v927 : BitVec 32 := Scalar.select v926 c1_i32_784 c8_i32_782
  let v928 : BitVec 32 := Scalar.remsi v925 v927
  let c0_i32_786 : BitVec 32 := 0#32
  let v930 : BitVec 1 := Scalar.cmpi .slt v928 c0_i32_786
  let c0_i32_787 : BitVec 32 := 0#32
  let v931 : BitVec 1 := Scalar.cmpi .slt v927 c0_i32_787
  let v932 : BitVec 1 := Scalar.xori v930 v931
  let c0_i32_785 : BitVec 32 := 0#32
  let v929 : BitVec 1 := Scalar.cmpi .ne v928 c0_i32_785
  let v933 : BitVec 1 := Scalar.andi v932 v929
  let v934 : BitVec 32 := Scalar.addi v928 v927
  let v935 : BitVec 32 := Scalar.select v933 v934 v928
  let c1_i32_790 : BitVec 32 := 1#32
  let v936 : BitVec 32 := Scalar.muli v935 c1_i32_790
  let v937 : BitVec 32 := Scalar.addi c0_i32_791 v936
  v937.toNat
def k0_dev25 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_795 : BitVec 32 := 4#32
  let v944 : BitVec 32 := Scalar.addi v2 c4_i32_795
  let c8_i32_796 : BitVec 32 := 8#32
  let c0_i32_797 : BitVec 32 := 0#32
  let v945 : BitVec 1 := Scalar.cmpi .eq c8_i32_796 c0_i32_797
  let c1_i32_798 : BitVec 32 := 1#32
  let v946 : BitVec 32 := Scalar.select v945 c1_i32_798 c8_i32_796
  let v947 : BitVec 32 := Scalar.remsi v944 v946
  let c0_i32_800 : BitVec 32 := 0#32
  let v949 : BitVec 1 := Scalar.cmpi .slt v947 c0_i32_800
  let c0_i32_801 : BitVec 32 := 0#32
  let v950 : BitVec 1 := Scalar.cmpi .slt v946 c0_i32_801
  let v951 : BitVec 1 := Scalar.xori v949 v950
  let c0_i32_799 : BitVec 32 := 0#32
  let v948 : BitVec 1 := Scalar.cmpi .ne v947 c0_i32_799
  let v952 : BitVec 1 := Scalar.andi v951 v948
  let v953 : BitVec 32 := Scalar.addi v947 v946
  let v954 : BitVec 32 := Scalar.select v952 v953 v947
  let c1_i32_804 : BitVec 32 := 1#32
  let v955 : BitVec 32 := Scalar.muli v954 c1_i32_804
  let v956 : BitVec 32 := Scalar.addi c0_i32_805 v955
  v956.toNat
def k0_dev26 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_809 : BitVec 32 := 5#32
  let v963 : BitVec 32 := Scalar.addi v2 c5_i32_809
  let c8_i32_810 : BitVec 32 := 8#32
  let c0_i32_811 : BitVec 32 := 0#32
  let v964 : BitVec 1 := Scalar.cmpi .eq c8_i32_810 c0_i32_811
  let c1_i32_812 : BitVec 32 := 1#32
  let v965 : BitVec 32 := Scalar.select v964 c1_i32_812 c8_i32_810
  let v966 : BitVec 32 := Scalar.remsi v963 v965
  let c0_i32_814 : BitVec 32 := 0#32
  let v968 : BitVec 1 := Scalar.cmpi .slt v966 c0_i32_814
  let c0_i32_815 : BitVec 32 := 0#32
  let v969 : BitVec 1 := Scalar.cmpi .slt v965 c0_i32_815
  let v970 : BitVec 1 := Scalar.xori v968 v969
  let c0_i32_813 : BitVec 32 := 0#32
  let v967 : BitVec 1 := Scalar.cmpi .ne v966 c0_i32_813
  let v971 : BitVec 1 := Scalar.andi v970 v967
  let v972 : BitVec 32 := Scalar.addi v966 v965
  let v973 : BitVec 32 := Scalar.select v971 v972 v966
  let c1_i32_818 : BitVec 32 := 1#32
  let v974 : BitVec 32 := Scalar.muli v973 c1_i32_818
  let v975 : BitVec 32 := Scalar.addi c0_i32_819 v974
  v975.toNat
def k0_dev27 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_823 : BitVec 32 := 6#32
  let v982 : BitVec 32 := Scalar.addi v2 c6_i32_823
  let c8_i32_824 : BitVec 32 := 8#32
  let c0_i32_825 : BitVec 32 := 0#32
  let v983 : BitVec 1 := Scalar.cmpi .eq c8_i32_824 c0_i32_825
  let c1_i32_826 : BitVec 32 := 1#32
  let v984 : BitVec 32 := Scalar.select v983 c1_i32_826 c8_i32_824
  let v985 : BitVec 32 := Scalar.remsi v982 v984
  let c0_i32_828 : BitVec 32 := 0#32
  let v987 : BitVec 1 := Scalar.cmpi .slt v985 c0_i32_828
  let c0_i32_829 : BitVec 32 := 0#32
  let v988 : BitVec 1 := Scalar.cmpi .slt v984 c0_i32_829
  let v989 : BitVec 1 := Scalar.xori v987 v988
  let c0_i32_827 : BitVec 32 := 0#32
  let v986 : BitVec 1 := Scalar.cmpi .ne v985 c0_i32_827
  let v990 : BitVec 1 := Scalar.andi v989 v986
  let v991 : BitVec 32 := Scalar.addi v985 v984
  let v992 : BitVec 32 := Scalar.select v990 v991 v985
  let c1_i32_832 : BitVec 32 := 1#32
  let v993 : BitVec 32 := Scalar.muli v992 c1_i32_832
  let v994 : BitVec 32 := Scalar.addi c0_i32_833 v993
  v994.toNat
def k0_dev28 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_837 : BitVec 32 := 7#32
  let v1001 : BitVec 32 := Scalar.addi v2 c7_i32_837
  let c8_i32_838 : BitVec 32 := 8#32
  let c0_i32_839 : BitVec 32 := 0#32
  let v1002 : BitVec 1 := Scalar.cmpi .eq c8_i32_838 c0_i32_839
  let c1_i32_840 : BitVec 32 := 1#32
  let v1003 : BitVec 32 := Scalar.select v1002 c1_i32_840 c8_i32_838
  let v1004 : BitVec 32 := Scalar.remsi v1001 v1003
  let c0_i32_842 : BitVec 32 := 0#32
  let v1006 : BitVec 1 := Scalar.cmpi .slt v1004 c0_i32_842
  let c0_i32_843 : BitVec 32 := 0#32
  let v1007 : BitVec 1 := Scalar.cmpi .slt v1003 c0_i32_843
  let v1008 : BitVec 1 := Scalar.xori v1006 v1007
  let c0_i32_841 : BitVec 32 := 0#32
  let v1005 : BitVec 1 := Scalar.cmpi .ne v1004 c0_i32_841
  let v1009 : BitVec 1 := Scalar.andi v1008 v1005
  let v1010 : BitVec 32 := Scalar.addi v1004 v1003
  let v1011 : BitVec 32 := Scalar.select v1009 v1010 v1004
  let c1_i32_846 : BitVec 32 := 1#32
  let v1012 : BitVec 32 := Scalar.muli v1011 c1_i32_846
  let v1013 : BitVec 32 := Scalar.addi c0_i32_847 v1012
  v1013.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 8
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/- The kernel's body written as a barrier, a start, seven hops and an ending, each stated once. -/
module

public import proofs.«01_k».proof.Proof.Gen.KernelIdeal.Skeleton

@[expose] public section

set_option maxRecDepth 65536

noncomputable section

namespace Cert.KernelIdeal

open Idealize.ShloMosaic Idealize.SL.Sem Cert.KernelIdeal.Gen

variable {F : FTy → Type} [FloatOps F]

/-- The programs of one core that return nothing. -/
abbrev CoreProg (F : FTy → Type) : Type 1 := Prog (TpuEff nD τ sig (Elt F) Λ₀ .tc) PUnit

/-- Slot `s` of a ring buffer lies inside it. -/
theorem inbSlot (s : Fin 4) : ∀ a, (![s.val, 0, 0] : Fin 3 → Nat) a + S1x256x4096.size a ≤ S4x256x4096.size a := by
  revert s; decide

/-- Entry `s` of an array of four semaphores lies inside it. -/
theorem inbS4 (s : Fin 4) : ∀ a, (![s.val] : Fin 1 → Nat) a + S1.size a ≤ S4.size a := by
  revert s; decide

/-- Entry `j` of an array of eight semaphores lies inside it. -/
theorem inbS8 (j : Fin 8) : ∀ a, (![j.val] : Fin 1 → Nat) a + S1.size a ≤ S8.size a := by
  revert j; decide

/-- The rectangle of slot `s`. -/
abbrev slotR (s : Fin 4) : Rect S4x256x4096 := Rect.unit (s := S4x256x4096) ![s.val, 0, 0] S1x256x4096.size (inbSlot s)

/-- Slot `s` of the ring buffer `b`, as the copies name it. -/
abbrev slotM (b : Memref sig .tc .vmem S4x256x4096 .f32) (s : Fin 4) : Memref sig .tc .vmem S256x4096 .f32 :=
  (b.slice (slotR s) (fun _ => rfl)).squeeze S256x4096 squeezes_S1x256x4096_S256x4096

/-- Semaphore `s` of an array of four. -/
abbrev sem4 (a : DmaSems sig S4) (s : Fin 4) : DmaSem sig :=
  ((a.slice (Rect.unit (s := S4) ![s.val] S1.size (inbS4 s))).squeeze S_ squeezes_S1_S_).sem

/-- Semaphore `j` of an array of eight. -/
abbrev sem8 (a : DmaSems sig S8) (j : Fin 8) : DmaSem sig :=
  ((a.slice (Rect.unit (s := S8) ![j.val] S1.size (inbS8 j))).squeeze S_ squeezes_S1_S_).sem

/-- The slot the hop `h` reads. -/
abbrev cur (h : Fin 7) : Fin 4 := ⟨h.val % 4, Nat.mod_lt _ (by decide)⟩
/-- The slot the hop `h` fills on the neighbour. -/
abbrev tgt (h : Fin 7) : Fin 4 := ⟨(h.val + 1) % 4, Nat.mod_lt _ (by decide)⟩

/-- The device hop `h` sends the top halves to. -/
def devF (d0 : Dev nD) : Fin 7 → Dev nD
  | 0 => ⟨k0_dev8 d0, k0_dev8_lt d0⟩ | 1 => ⟨k0_dev10 d0, k0_dev10_lt d0⟩ | 2 => ⟨k0_dev12 d0, k0_dev12_lt d0⟩
  | 3 => ⟨k0_dev14 d0, k0_dev14_lt d0⟩ | 4 => ⟨k0_dev16 d0, k0_dev16_lt d0⟩ | 5 => ⟨k0_dev18 d0, k0_dev18_lt d0⟩
  | 6 => ⟨k0_dev20 d0, k0_dev20_lt d0⟩
/-- The device hop `h` sends the bottom halves to. -/
def devB (d0 : Dev nD) : Fin 7 → Dev nD
  | 0 => ⟨k0_dev9 d0, k0_dev9_lt d0⟩ | 1 => ⟨k0_dev11 d0, k0_dev11_lt d0⟩ | 2 => ⟨k0_dev13 d0, k0_dev13_lt d0⟩
  | 3 => ⟨k0_dev15 d0, k0_dev15_lt d0⟩ | 4 => ⟨k0_dev17 d0, k0_dev17_lt d0⟩ | 5 => ⟨k0_dev19 d0, k0_dev19_lt d0⟩
  | 6 => ⟨k0_dev21 d0, k0_dev21_lt d0⟩
/-- The device the `j`-th barrier signal goes to. -/
def devS (d0 : Dev nD) : Fin 7 → Dev nD
  | 0 => ⟨k0_dev1 d0, k0_dev1_lt d0⟩ | 1 => ⟨k0_dev2 d0, k0_dev2_lt d0⟩ | 2 => ⟨k0_dev3 d0, k0_dev3_lt d0⟩
  | 3 => ⟨k0_dev4 d0, k0_dev4_lt d0⟩ | 4 => ⟨k0_dev5 d0, k0_dev5_lt d0⟩ | 5 => ⟨k0_dev6 d0, k0_dev6_lt d0⟩
  | 6 => ⟨k0_dev7 d0, k0_dev7_lt d0⟩
/-- The device the `j`-th row of maxima goes to. -/
def devA (d0 : Dev nD) : Fin 7 → Dev nD
  | 0 => ⟨k0_dev22 d0, k0_dev22_lt d0⟩ | 1 => ⟨k0_dev23 d0, k0_dev23_lt d0⟩ | 2 => ⟨k0_dev24 d0, k0_dev24_lt d0⟩
  | 3 => ⟨k0_dev25 d0, k0_dev25_lt d0⟩ | 4 => ⟨k0_dev26 d0, k0_dev26_lt d0⟩ | 5 => ⟨k0_dev27 d0, k0_dev27_lt d0⟩
  | 6 => ⟨k0_dev28 d0, k0_dev28_lt d0⟩

/-- The rows of the result the hop `h` writes from the top half it holds. -/
abbrev outF (d0 : Dev nD) (h : Fin 8) : Rect S4096x256 :=
  Rect.unit (s := S4096x256) (k0_off1 d0 (k0_off1_at h).1 (k0_off1_at h).2) S256x256.size (k0_off1_inb d0 h)
/-- The rows of the result the hop `h` writes from the bottom half it holds. -/
abbrev outB (d0 : Dev nD) (h : Fin 8) : Rect S4096x256 :=
  Rect.unit (s := S4096x256) (k0_off2 d0 (k0_off2_at h).1 (k0_off2_at h).2) S256x256.size (k0_off2_inb d0 h)

/-- The row of the maxima that belongs to the device, as the store names it. -/
abbrev rowR (d0 : Dev nD) : Rect S8x128 := Rect.unit (s := S8x128) (k0_off3 d0) S1x128.size (k0_off3_inb d0)
/-- The row of the maxima that belongs to the device, as the copies name it. -/
abbrev rowM (b : Memref sig .tc .vmem S8x128 .f32) (d0 : Dev nD) : Memref sig .tc .vmem S1x128 .f32 :=
  b.slice (Rect.unit (s := S8x128) (k0_off4 d0) S1x128.size (k0_off4_inb d0)) (fun _ => rfl)
/-- The device's own maximum, as the copies name it. -/
abbrev txM (b : Memref sig .tc .vmem S1x128 .f32) : Memref sig .tc .vmem S1x128 .f32 :=
  b.slice (Rect.unit (s := S1x128) ![0, 0] S1x128.size inb_S1x128_S1x128_0_0) (fun _ => rfl)

/-- The barrier's semaphore. -/
abbrev barS : Sem sig := (SemArray.scalar (sig.barrier 0 rfl) : Sems sig S_).sem

section
variable (x : Memref sig .tc .vmem S512x4096 .f32) (w o : Memref sig .tc .vmem S4096x256 .f32)
  (cf cb : Memref sig .tc .vmem S4x256x4096 .f32) (tx : Memref sig .tc .vmem S1x128 .f32) (rx : Memref sig .tc .vmem S8x128 .f32)
  (sf rf sb rb : DmaSems sig S4) (sa ra : DmaSems sig S8)

/-- One barrier signal. -/
def sigP (d0 : Dev nD) (j : Fin 7) (k : CoreProg F) : CoreProg F :=
  .op (.semSignal (devS d0 j, .tc) barS (1#32).toInt) fun _ => k

/-- Send the slot the hop reads to the slot it fills on device `d`. -/
def sendP (b : Memref sig .tc .vmem S4x256x4096 .f32) (sS sR : DmaSems sig S4) (d : Dev nD) (h : Fin 7) (k : CoreProg F) : CoreProg F :=
  .op (.enqueueDma (slotM b (cur h)) (.remote (Dev.tc d) (slotM b (tgt h)) (.dma (sem4 sS (cur h)))) (.dma (sem4 sR (tgt h)))
    ((View.wordExact_bits rfl).reshape _ _) ((View.wordExact_bits rfl).reshape _ _) ⟨⟨rfl, Or.inl rfl⟩, trivial⟩) fun _ => k

/-- Wait for a slot's worth on a semaphore: `a` and `c` are the two slots the wait names. -/
def waitP (b : Memref sig .tc .vmem S4x256x4096 .f32) (q : DmaSem sig) (a c : Fin 4) (k : CoreProg F) : CoreProg F :=
  .op (.waitDma2 q (slotM b a) (slotM b c) ((View.wordExact_bits rfl).reshape _ _) ((View.wordExact_bits rfl).reshape _ _)) fun _ => k

/-- Load slot `s`, load the rows it goes to, store its product there. -/
def gemmP (b : Memref sig .tc .vmem S4x256x4096 .f32) (s : Fin 4) (off : Fin 2 → Nat)
    (inb : ∀ a, off a + S256x256.size a ≤ S4096x256.size a) (W : FVec F S4096x256 .f32)
    (k : Vec F S1x256x4096 .f32 → CoreProg F) : CoreProg F :=
  .op (.load b (slotR s).toLoadRect (View.loadsAt_vmem h_S1x256x4096)) fun v =>
  .op (.load o (Rect.unit (s := S4096x256) off S256x256.size inb).toLoadRect (View.loadsAt_vmem h_S256x256)) fun _ =>
  .op (.store o (Rect.unit (s := S4096x256) off S256x256.size inb) (k0_pay9 W v) Finset.univ
    (View.stores_vmem_bits_univ h_S256x256 rfl) (.inl rfl)) fun _ => k v

/-- The hop `h`: send both halves on, multiply both, wait for both. -/
def hopP (d0 : Dev nD) (W : FVec F S4096x256 .f32) (h : Fin 7) (m : F .f32) (k : F .f32 → CoreProg F) : CoreProg F :=
  sendP cf sf rf (devF d0 h) h <| sendP cb sb rb (devB d0 h) h <|
  gemmP o cf (cur h) (k0_off1 d0 (k0_off1_at h.castSucc).1 (k0_off1_at h.castSucc).2) (k0_off1_inb d0 h.castSucc) W fun vf =>
  gemmP o cb (cur h) (k0_off2 d0 (k0_off2_at h.castSucc).1 (k0_off2_at h.castSucc).2) (k0_off2_inb d0 h.castSucc) W fun vb =>
  waitP cf (sem4 sf (cur h)) (tgt h) (cur h) <| waitP cf (sem4 rf (tgt h)) (cur h) (tgt h) <|
  waitP cb (sem4 sb (cur h)) (tgt h) (cur h) <| waitP cb (sem4 rb (tgt h)) (cur h) (tgt h) <|
  k (k0_pay11 W m vf vb)

/-- The start: both halves of the device's own chunk into slot 0, and the weights read. -/
def initP (k : FVec F S4096x256 .f32 → CoreProg F) : CoreProg F :=
  .op (.load x (Rect.unit (s := S512x4096) ![0, 0] S256x4096.size inb_S512x4096_S256x4096_0_0).toLoadRect (View.loadsAt_vmem h_S256x4096)) fun u =>
  .op (.load cf (slotR 0).toLoadRect (View.loadsAt_vmem h_S1x256x4096)) fun _ =>
  .op (.store cf (slotR 0) (k0_pay2 u) Finset.univ (View.stores_vmem_bits_univ h_S1x256x4096 rfl) (.inl rfl)) fun _ =>
  .op (.load x (Rect.unit (s := S512x4096) ![256, 0] S256x4096.size inb_S512x4096_S256x4096_256_0).toLoadRect (View.loadsAt_vmem h_S256x4096)) fun v =>
  .op (.load cb (slotR 0).toLoadRect (View.loadsAt_vmem h_S1x256x4096)) fun _ =>
  .op (.store cb (slotR 0) (k0_pay3 v) Finset.univ (View.stores_vmem_bits_univ h_S1x256x4096 rfl) (.inl rfl)) fun _ =>
  .op (.load w (Rect.unit (s := S4096x256) ![0, 0] S4096x256.size inb_S4096x256_S4096x256_0_0).toLoadRect (View.loadsAt_vmem h_S4096x256)) fun W =>
  k (k0_pay4 W)

/-- The whole rectangle of the device's own maximum. -/
abbrev txR : Rect S1x128 := Rect.unit (s := S1x128) ![0, 0] S1x128.size inb_S1x128_S1x128_0_0
/-- The whole rectangle of the result. -/
abbrev outR : Rect S4096x256 := Rect.unit (s := S4096x256) ![0, 0] S4096x256.size inb_S4096x256_S4096x256_0_0
/-- The whole rectangle of the maxima. -/
abbrev rxR : Rect S8x128 := Rect.unit (s := S8x128) ![0, 0] S8x128.size inb_S8x128_S8x128_0_0

/-- The last two products and the device's own maximum. -/
def lastP (d0 : Dev nD) (W : FVec F S4096x256 .f32) (m : F .f32) (k : CoreProg F) : CoreProg F :=
  gemmP o cf 3 (k0_off2 d0 (k0_off2_at 7).1 (k0_off2_at 7).2) (k0_off2_inb d0 7) W fun vf =>
  gemmP o cb 3 (k0_off1 d0 (k0_off1_at 7).1 (k0_off1_at 7).2) (k0_off1_inb d0 7) W fun vb =>
  .op (.load tx txR.toLoadRect (View.loadsAt_vmem h_S1x128)) fun _ =>
  .op (.store tx txR (k0_pay31 W m (k0_pay9 W vf) vb) Finset.univ (View.stores_vmem_bits_univ h_S1x128 rfl) (.inl rfl)) fun _ =>
  .op (.load tx txR.toLoadRect (View.loadsAt_vmem h_S1x128)) fun t =>
  .op (.load rx (rowR d0).toLoadRect (View.loadsAt_vmem h_S1x128)) fun _ =>
  .op (.store rx (rowR d0) (k0_pay32 t) Finset.univ (View.stores_vmem_bits_univ h_S1x128 rfl) (.inl rfl)) fun _ => k

/-- Send the device's own maximum to the `j`-th other device. -/
def sendA (d0 : Dev nD) (j : Fin 7) (k : CoreProg F) : CoreProg F :=
  .op (.enqueueDma (txM tx) (.remote (Dev.tc (devA d0 j)) (rowM rx d0) (.dma (sem8 sa j.succ))) (.dma (sem8 ra j.succ))
    (View.wordExact_bits rfl) (View.wordExact_bits rfl) ⟨⟨rfl, Or.inl rfl⟩, trivial⟩) fun _ => k

/-- Wait for the `j`-th of those sends, and for the `j`-th row from elsewhere. -/
def waitA (d0 : Dev nD) (j : Fin 7) (k : CoreProg F) : CoreProg F :=
  .op (.waitDma2 (sem8 sa j.succ) (rowM rx d0) (txM tx) (View.wordExact_bits rfl) (View.wordExact_bits rfl)) fun _ =>
  .op (.waitDma2 (sem8 ra j.succ) (txM tx) (rowM rx d0) (View.wordExact_bits rfl) (View.wordExact_bits rfl)) fun _ => k

/-- The ending: the scale from all maxima, and the result rounded to it. -/
def finP : CoreProg F :=
  .op (.load rx rxR.toLoadRect (View.loadsAt_vmem h_S8x128)) fun R =>
  .op (.load o outR.toLoadRect (View.loadsAt_vmem h_S4096x256)) fun Y =>
  .op (.load o outR.toLoadRect (View.loadsAt_vmem h_S4096x256)) fun _ =>
  .op (.store o outR (k0_pay1 (k0_pay33 R) (k0_pay34 R Y)) Finset.univ (View.stores_vmem_bits_univ h_S4096x256 rfl) (.inl rfl)) fun _ => .ret ⟨⟩

/-- The body with its repeated pieces named. -/
def bodyP : CoreProg F :=
  .op .deviceId fun d0 =>
  sigP d0 0 <| sigP d0 1 <| sigP d0 2 <| sigP d0 3 <| sigP d0 4 <| sigP d0 5 <| sigP d0 6 <|
  .op (.semWait barS (7#32).toInt) fun _ =>
  initP x w cf cb fun W =>
  hopP o cf cb sf rf sb rb d0 W 0 (Scalar.ofBits .f32 0x00000000#32) fun m =>
  hopP o cf cb sf rf sb rb d0 W 1 m fun m =>
  hopP o cf cb sf rf sb rb d0 W 2 m fun m =>
  hopP o cf cb sf rf sb rb d0 W 3 m fun m =>
  hopP o cf cb sf rf sb rb d0 W 4 m fun m =>
  hopP o cf cb sf rf sb rb d0 W 5 m fun m =>
  hopP o cf cb sf rf sb rb d0 W 6 m fun m =>
  lastP o cf cb tx rx d0 W m <|
  sendA tx rx sa ra d0 0 <| sendA tx rx sa ra d0 1 <| sendA tx rx sa ra d0 2 <| sendA tx rx sa ra d0 3 <|
  sendA tx rx sa ra d0 4 <| sendA tx rx sa ra d0 5 <| sendA tx rx sa ra d0 6 <|
  waitA tx rx sa ra d0 0 <| waitA tx rx sa ra d0 1 <| waitA tx rx sa ra d0 2 <| waitA tx rx sa ra d0 3 <|
  waitA tx rx sa ra d0 4 <| waitA tx rx sa ra d0 5 <| waitA tx rx sa ra d0 6 <|
  finP o rx
end

/-- The printed body is that program. -/
theorem body_eq (x : Memref sig .tc .vmem S512x4096 .f32) (hx) (w) (hw) (o) (ho) (cf) (hcf) (cb) (hcb) (tx) (htx) (rx) (hrx)
    (sf rf sb rb : DmaSems sig S4) (sa ra : DmaSems sig S8) :
    cc0_body (F := F) x hx w hw o ho cf hcf cb hcb tx htx rx hrx sf rf sb rb sa ra = bodyP x w o cf cb tx rx sf rf sb rb sa ra := by
  rw [cc0_body_eq_skeleton]
  rfl

end Cert.KernelIdeal
-- ==== Proof.Common.lean ====
/- The ring of eight devices, the buffers and their contents, and the resources the proof moves around. -/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.ValueIdxCoords

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A payment's name: its kind (0 barrier, 1 and 2 the halves landing, 3 the maxima landing, 4, 5, 6 the same sends
    completing) and the hop or offset it belongs to. -/
abbrev Du : Type := Fin 7 × Fin 7

abbrev UB : Type := URounds (GSem nD τ sig) Du
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

/-- The next device of the ring 0 1 2 3 7 6 5 4. -/
def nxt : Dev nD → Dev nD := ![1, 2, 3, 7, 0, 4, 5, 6]
/-- The previous device of the ring. -/
def prv : Dev nD → Dev nD := ![4, 0, 1, 2, 5, 6, 7, 3]

theorem prv_nxt (c : Dev nD) : prv (nxt c) = c := by revert c; decide
theorem nxt_prv (c : Dev nD) : nxt (prv c) = c := by revert c; decide

/-- The device `j + 1` further on, by number. -/
def fwd (c : Dev nD) (j : Fin 7) : Dev nD := c + ⟨j.val + 1, by have := j.isLt; show _ < 8; omega⟩
/-- The device `j + 1` back, by number. -/
def bwd (c : Dev nD) (j : Fin 7) : Dev nD := c - ⟨j.val + 1, by have := j.isLt; show _ < 8; omega⟩

theorem bwd_fwd (c : Dev nD) (j : Fin 7) : bwd (fwd c j) j = c := by revert c j; decide
theorem fwd_bwd (c : Dev nD) (j : Fin 7) : fwd (bwd c j) j = c := by revert c j; decide
theorem bwd_rev (c : Dev nD) (j : Fin 7) : bwd c j.rev = fwd c j := by revert c j; decide

set_option maxRecDepth 20000 in
theorem devF_eq (c : Dev nD) (h : Fin 7) : devF c h = nxt c := by revert c h; decide +kernel
set_option maxRecDepth 20000 in
theorem devB_eq (c : Dev nD) (h : Fin 7) : devB c h = prv c := by revert c h; decide +kernel
set_option maxRecDepth 20000 in
theorem devS_eq (c : Dev nD) (j : Fin 7) : devS c j = fwd c j := by revert c j; decide +kernel
set_option maxRecDepth 20000 in
theorem devA_eq (c : Dev nD) (j : Fin 7) : devA c j = fwd c j := by revert c j; decide +kernel

/-- The device whose top half hop `h` of device `c` reads: `h` steps back. -/
abbrev orgF (h : ℕ) (c : Dev nD) : Dev nD := prv^[h] c
/-- The device whose bottom half hop `h` of device `c` reads: `h` steps on. -/
abbrev orgB (h : ℕ) (c : Dev nD) : Dev nD := nxt^[h] c

/-! ## Memrefs and semaphores -/

abbrev xM : Memref sig .tc .vmem S512x4096 .f32 := Memref.whole cc0_stg0_0
abbrev wM : Memref sig .tc .vmem S4096x256 .f32 := Memref.whole cc0_stg1_0
abbrev oM : Memref sig .tc .vmem S4096x256 .f32 := Memref.whole cc0_stg2_0
abbrev fM : Memref sig .tc .vmem S4x256x4096 .f32 := Memref.whole cc0_scratch0
abbrev bM : Memref sig .tc .vmem S4x256x4096 .f32 := Memref.whole cc0_scratch1
abbrev tM : Memref sig .tc .vmem S1x128 .f32 := Memref.whole cc0_scratch2
abbrev rM : Memref sig .tc .vmem S8x128 .f32 := Memref.whole cc0_scratch3

/-- The DMA semaphore at place `b + k` of the pool. -/
abbrev sfQ (s : Fin 4) : DmaSem sig := ⟨3 + s.val, by have := s.isLt; show _ < 35; omega⟩
abbrev rfQ (s : Fin 4) : DmaSem sig := ⟨7 + s.val, by have := s.isLt; show _ < 35; omega⟩
abbrev sbQ (s : Fin 4) : DmaSem sig := ⟨11 + s.val, by have := s.isLt; show _ < 35; omega⟩
abbrev rbQ (s : Fin 4) : DmaSem sig := ⟨15 + s.val, by have := s.isLt; show _ < 35; omega⟩
abbrev saQ (j : Fin 7) : DmaSem sig := ⟨20 + j.val, by have := j.isLt; show _ < 35; omega⟩
abbrev raQ (j : Fin 7) : DmaSem sig := ⟨28 + j.val, by have := j.isLt; show _ < 35; omega⟩

theorem sem4_sf (s : Fin 4) : sem4 cc0_scratch4 s = sfQ s := by revert s; decide +kernel
theorem sem4_rf (s : Fin 4) : sem4 cc0_scratch5 s = rfQ s := by revert s; decide +kernel
theorem sem4_sb (s : Fin 4) : sem4 cc0_scratch6 s = sbQ s := by revert s; decide +kernel
theorem sem4_rb (s : Fin 4) : sem4 cc0_scratch7 s = rbQ s := by revert s; decide +kernel
theorem sem8_sa (j : Fin 7) : sem8 cc0_scratch8 j.succ = saQ j := by revert j; decide +kernel
theorem sem8_ra (j : Fin 7) : sem8 cc0_scratch9 j.succ = raQ j := by revert j; decide +kernel

/-- The semaphore a payment raises. -/
def semOf : Du → SemLoc sig
  | (0, _) => .reg barS
  | (1, h) => .dma (rfQ (tgt h))
  | (2, h) => .dma (rbQ (tgt h))
  | (3, j) => .dma (raQ j)
  | (4, h) => .dma (sfQ (cur h))
  | (5, h) => .dma (sbQ (cur h))
  | (6, j) => .dma (saQ j)
/-- The round of that semaphore's waits the payment belongs to. -/
def rnd (u : Du) : ℕ := if u.1 = 0 ∨ u.1 = 3 ∨ u.1 = 6 then 0 else u.2.val / 4

/-- The cell of device `c` a payment named `u` raises. -/
abbrev cel (c : Dev nD) (u : Du) : GSem nD τ sig := ((c : Thread nD τ), semOf u)

/-- What one slot's copy adds to a semaphore. -/
def Ns : ℕ := (slotM fM 0).view.dmaCredit
/-- What one row's copy adds to a semaphore. -/
def Na : ℕ := (txM tM).view.dmaCredit
theorem Ns_pos : 0 < Ns := View.dmaCredit_pos _ (by decide)
theorem Na_pos : 0 < Na := View.dmaCredit_pos _ (by decide)
/-- What a payment adds. -/
def amt (u : Du) : ℕ := if u.1 = 0 then 1 else if u.1 = 3 ∨ u.1 = 6 then Na else Ns
theorem amt_pos (u : Du) : 0 < amt u := by
  unfold amt; split
  · exact Nat.one_pos
  · split
    · exact Na_pos
    · exact Ns_pos

theorem rnd_le (u : Du) : rnd u ≤ 1 := by revert u; decide
set_option maxRecDepth 20000 in
theorem filter_single (u : Du) (hu : u.1 ≠ 0) :
    (Finset.univ.filter fun v : Du => semOf v = semOf u ∧ rnd v = rnd u) = {u} := by revert u; decide +kernel
set_option maxRecDepth 20000 in
theorem filter_bar : (Finset.univ.filter fun v : Du => semOf v = .reg barS ∧ rnd v = 0) = Finset.univ.image (fun j : Fin 7 => ((0 : Fin 7), j)) := by
  decide +kernel

end Cert.KernelIdeal
-- ==== Proof.Sched.lean ====
/- What the buffers hold, what each payment hands over, and the schedule of payments. -/
module

public import proofs.«01_k».proof.Proof.Common

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-- The state the region starts from. -/
def s₀ : MemSt nD τ sig (Elt F) := ⟨m, fun _ => 0, ρ⟩

/-! ## Contents -/

/-- The rows of `x` device `c` holds. -/
def xstg (c : Dev nD) : (cc0_stg0_0 : Ref sig .tc).ty.Contents (Elt F) :=
  (win0_0.blk (0 : Fin 1)).view.read (Elt F) ((s₀ m ρ).mem ((c : Thread nD τ).loc main_arg0))
/-- The columns of the weights device `c` holds. -/
def wstg (c : Dev nD) : (cc0_stg1_0 : Ref sig .tc).ty.Contents (Elt F) :=
  (win0_1.blk (0 : Fin 1)).view.read (Elt F) ((s₀ m ρ).mem ((c : Thread nD τ).loc main_arg1))

/-- The weights as the body uses them. -/
def Wv (c : Dev nD) : FVec F S4096x256 .f32 := k0_pay4 (wstg m ρ c)
/-- The top half of device `c`'s rows, as a slot holds it. -/
def topV (c : Dev nD) : Vec F S1x256x4096 .f32 :=
  k0_pay2 (xM.view.readAt (Elt F) (Rect.unit (s := S512x4096) ![0, 0] S256x4096.size inb_S512x4096_S256x4096_0_0).toLoadRect (xstg m ρ c))
/-- The bottom half of device `c`'s rows, as a slot holds it. -/
def botV (c : Dev nD) : Vec F S1x256x4096 .f32 :=
  k0_pay3 (xM.view.readAt (Elt F) (Rect.unit (s := S512x4096) ![256, 0] S256x4096.size inb_S512x4096_S256x4096_256_0).toLoadRect (xstg m ρ c))

/-- A ring buffer every slot of which holds `V`. -/
def slotBuf (V : Vec F S1x256x4096 .f32) : S4x256x4096.Idx → F .f32 := fun i => V (ix3 0 (i 1) (i 2))

/-- The running maximum of device `c` before hop `h`. -/
def mx (c : Dev nD) : ℕ → F .f32
  | 0 => Scalar.ofBits .f32 0x00000000#32
  | h + 1 => k0_pay11 (Wv m ρ c) (mx c h) (topV m ρ (orgF h c)) (botV m ρ (orgB h c))
/-- The row of device `c`'s own maximum. -/
def txV (c : Dev nD) : Vec F S1x128 .f32 :=
  k0_pay31 (Wv m ρ c) (mx m ρ c 7) (k0_pay9 (Wv m ρ c) (topV m ρ (orgF 7 c))) (botV m ρ (orgB 7 c))
/-- All devices' maxima, a row each. -/
def rxV : S8x128.Idx → F .f32 := fun i => txV m ρ (i 0) (ix2 0 (i 1))

/-- The product device `c` computes, before rounding: a block of 256 rows per half. -/
def Yv (c : Dev nD) : S4096x256.Idx → F .f32 := fun i =>
  let o : Dev nD := ⟨(i 0).val / 512, by have : (i 0).val < 4096 := (i 0).isLt; show _ < 8; omega⟩
  let r : Fin 256 := ⟨(i 0).val % 256, Nat.mod_lt _ (by decide)⟩
  if (i 0).val % 512 < 256 then k0_pay9 (Wv m ρ c) (topV m ρ o) (ix2 r (i 1)) else k0_pay9 (Wv m ρ c) (botV m ρ o) (ix2 r (i 1))
/-- What device `c` returns. -/
def outV (c : Dev nD) : (cc0_stg2_0 : Ref sig .tc).ty.Contents (Elt F) := k0_pay1 (k0_pay33 (rxV m ρ)) (k0_pay34 (rxV m ρ) (Yv m ρ c))

/-! ## Resources -/

/-- A share of slot `s` of device `c`'s forward buffer. -/
def fS (c : Dev nD) (s : Fin 4) (q : PosShare TreeShare) (f : S4x256x4096.Idx → F .f32) : sProp 𝕄 :=
  (slotM fM s).view.loc (c : Thread nD τ) ↦[(slotM fM s).view.set]{q} f
/-- A share of slot `s` of device `c`'s backward buffer. -/
def bS (c : Dev nD) (s : Fin 4) (q : PosShare TreeShare) (f : S4x256x4096.Idx → F .f32) : sProp 𝕄 :=
  (slotM bM s).view.loc (c : Thread nD τ) ↦[(slotM bM s).view.set]{q} f
/-- Row `l` of device `c`'s table of maxima. -/
def rS (c l : Dev nD) (f : S8x128.Idx → F .f32) : sProp 𝕄 :=
  (rowM rM l).view.loc (c : Thread nD τ) ↦[(rowM rM l).view.set]{fullShare} f
/-- A share of device `c`'s own maximum. -/
def tS (c : Dev nD) (q : PosShare TreeShare) (f : S1x128.Idx → F .f32) : sProp 𝕄 :=
  (txM tM).view.loc (c : Thread nD τ) ↦[(txM tM).view.set]{q} f

instance fS_storable (c s q f) : BI.Storable (upEmb : UEmb _ 𝕄) (fS (F := F) c s q f) := by unfold fS; infer_instance
instance bS_storable (c s q f) : BI.Storable (upEmb : UEmb _ 𝕄) (bS (F := F) c s q f) := by unfold bS; infer_instance
instance rS_storable (c l f) : BI.Storable (upEmb : UEmb _ 𝕄) (rS (F := F) c l f) := by unfold rS; infer_instance
instance tS_storable (c q f) : BI.Storable (upEmb : UEmb _ 𝕄) (tS (F := F) c q f) := by unfold tS; infer_instance

/-- The slot after the one a hop fills: the next hop's target. -/
abbrev tgt' (h : Fin 7) : Fin 4 := ⟨(h.val + 2) % 4, Nat.mod_lt _ (by decide)⟩

/-- With hop `h`'s forward landing at `c` the sender hands over its own backward slot that `c` fills next. -/
def feedF (c : Dev nD) (h : Fin 7) : sProp 𝕄 :=
  if hh : h.val < 6 then
    iprop((∃ f, bS (prv c) (tgt' h) fullShare f) ∗ reached ER (cel (prv c) (2, ⟨h.val + 1, by omega⟩)) (rnd (2, ⟨h.val + 1, by omega⟩)))
  else iprop(emp)
/-- With hop `h`'s backward landing at `c` the sender hands over its own forward slot that `c` fills next. -/
def feedB (c : Dev nD) (h : Fin 7) : sProp 𝕄 :=
  if hh : h.val < 6 then
    iprop((∃ f, fS (nxt c) (tgt' h) fullShare f) ∗ reached ER (cel (nxt c) (1, ⟨h.val + 1, by omega⟩)) (rnd (1, ⟨h.val + 1, by omega⟩)))
  else iprop(emp)

/-- What device `d = bwd c j` hands over with its barrier signal to `c`: the row of its table `c` fills, and the first slot
    `c` fills if they are neighbours. -/
def barPay (c : Dev nD) (j : Fin 7) : sProp 𝕄 :=
  iprop((∃ f, rS (bwd c j) c f)
    ∗ (if bwd c j = nxt c then iprop(∃ f, fS (nxt c) 1 fullShare f) else iprop(emp))
    ∗ (if bwd c j = prv c then iprop(∃ f, bS (prv c) 1 fullShare f) else iprop(emp)))

/-- What each payment hands over at device `c`. -/
def pay (c : Dev nD) : Du → sProp 𝕄
  | (0, j) => barPay c j
  | (1, h) => iprop(fS c (tgt h) fullShare (slotBuf (topV m ρ (orgF (h.val + 1) c))) ∗ feedF c h)
  | (2, h) => iprop(bS c (tgt h) fullShare (slotBuf (botV m ρ (orgB (h.val + 1) c))) ∗ feedB c h)
  | (3, j) => rS c (bwd c j) (rxV m ρ)
  | (4, h) => fS c (cur h) fullShare.left (slotBuf (topV m ρ (orgF h.val c)))
  | (5, h) => bS c (cur h) fullShare.left (slotBuf (botV m ρ (orgB h.val c)))
  | (6, j) => tS c (shareTok fullShare 7 j) (txV m ρ c)

instance feedF_storable (c : Dev nD) (h : Fin 7) : BI.Storable (upEmb : UEmb _ 𝕄) (feedF (F := F) c h) := by
  unfold feedF; split <;> infer_instance
instance feedB_storable (c : Dev nD) (h : Fin 7) : BI.Storable (upEmb : UEmb _ 𝕄) (feedB (F := F) c h) := by
  unfold feedB; split <;> infer_instance
instance barPay_storable (c : Dev nD) (j : Fin 7) : BI.Storable (upEmb : UEmb _ 𝕄) (barPay (F := F) c j) := by
  unfold barPay; (repeat' split) <;> infer_instance

instance pay_storable (c : Dev nD) (u : Du) : BI.Storable (upEmb : UEmb _ 𝕄) (pay (F := F) m ρ c u) := by
  obtain ⟨k, j⟩ := u
  fin_cases k <;> dsimp only [pay] <;> infer_instance

/-- The schedule: each payment on its cell in its round. -/
def Rd : Rounds.Schedule (GSem nD τ sig) Du 𝕄 where
  duties g r := if g.1.2 = .tc then Finset.univ.filter (fun u => semOf u = g.2 ∧ rnd u = r) else ∅
  unitless _ := False
  amount _ _ u := amt u
  payload g _ u := pay m ρ g.1.1 u
  amount_pos _ _ u _ := amt_pos u

instance Rd_storable (g : GSem nD τ sig) (r : ℕ) (u : Du) : BI.Storable (upEmb : UEmb _ 𝕄) ((Rd (F := F) m ρ).payload g r u) :=
  pay_storable m ρ g.1.1 u

theorem duties_mem (c : Dev nD) (u : Du) : u ∈ (Rd (F := F) m ρ).duties (cel c u) (rnd u) := by
  dsimp only [Rd]; rw [if_pos rfl]; simp
theorem duties_single (c : Dev nD) (u : Du) (hu : u.1 ≠ 0) : (Rd (F := F) m ρ).duties (cel c u) (rnd u) = {u} := by
  dsimp only [Rd]; rw [if_pos rfl]; exact filter_single u hu
theorem duties_bar (c : Dev nD) : (Rd (F := F) m ρ).duties ((c : Thread nD τ), .reg barS) 0 = Finset.univ.image (fun j : Fin 7 => ((0 : Fin 7), j)) := by
  dsimp only [Rd]; rw [if_pos rfl]; exact filter_bar
theorem expect_single (c : Dev nD) (u : Du) (hu : u.1 ≠ 0) : (Rd (F := F) m ρ).expect (cel c u) (rnd u) = amt u := by
  unfold Schedule.expect Schedule.amountOf; rw [duties_single m ρ c u hu, Finset.sum_singleton]; rfl
theorem expect_bar (c : Dev nD) : (Rd (F := F) m ρ).expect ((c : Thread nD τ), .reg barS) 0 = 7 := by
  unfold Schedule.expect Schedule.amountOf
  rw [duties_bar, Finset.sum_image (fun a _ b _ h => (Prod.mk.inj h).2)]
  rfl
theorem rest_single (c : Dev nD) (u : Du) (hu : u.1 ≠ 0) :
    bigSep ((Rd (F := F) m ρ).duties (cel c u) (rnd u) \ ∅) (fun v => (Rd (F := F) m ρ).payload (cel c u) (rnd u) v) = pay m ρ c u := by
  rw [Finset.sdiff_empty, duties_single m ρ c u hu, bigSep_singleton]; rfl
theorem rest_bar (c : Dev nD) :
    bigSep ((Rd (F := F) m ρ).duties ((c : Thread nD τ), .reg barS) 0 \ ∅) (fun v => (Rd (F := F) m ρ).payload ((c : Thread nD τ), .reg barS) 0 v)
      = bigSep Finset.univ (fun j : Fin 7 => barPay (F := F) c j) := by
  rw [Finset.sdiff_empty, duties_bar]
  exact bigSep_image_of_injOn (fun a _ b _ h => (Prod.mk.inj h).2) _
/-- A cell past its last round has no payments. -/
theorem duties_later (c : Dev nD) (sm : SemLoc sig) (R : ℕ) (h : ∀ u : Du, semOf u = sm → rnd u < R) :
    ∀ r, R ≤ r → (Rd (F := F) m ρ).duties ((c : Thread nD τ), sm) r = ∅ := by
  intro r hr
  dsimp only [Rd]; rw [if_pos rfl]
  refine Finset.filter_eq_empty_iff.mpr fun u _ hu => ?_
  have := h u hu.1; omega

end Cert.KernelIdeal
-- ==== Proof.Owed.lean ====
/- The payments a device makes, in order, what it owes in between, and the order of the waits. -/
module

public import proofs.«01_k».proof.Proof.Sched

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The payments of a device in order -/

/-- A number as an index below seven. -/
def f7 (n : ℕ) : Fin 7 := ⟨n % 7, Nat.mod_lt _ (by decide)⟩
/-- The `i`-th payment of a device to other devices: seven barrier signals, both halves of each hop, seven maxima. -/
def pdu (i : ℕ) : Du :=
  if i < 7 then (0, f7 i) else if i < 21 then (if (i - 7) % 2 = 0 then (1, f7 ((i - 7) / 2)) else (2, f7 ((i - 7) / 2))) else (3, f7 (i - 21))
/-- The device a payment of that name goes to from device `c`. -/
def goes (u : Du) (c : Dev nD) : Dev nD := match u with
  | (0, j) => fwd c j | (1, _) => nxt c | (2, _) => prv c | (3, j) => fwd c j | (4, _) => c | (5, _) => c | (6, _) => c
/-- The device a payment of that name comes from at device `c`. -/
def comes (u : Du) (c : Dev nD) : Dev nD := match u with
  | (0, j) => bwd c j | (1, _) => prv c | (2, _) => nxt c | (3, j) => bwd c j | (4, _) => c | (5, _) => c | (6, _) => c
theorem comes_goes (u : Du) (c : Dev nD) : comes u (goes u c) = c := by revert u c; decide +kernel
theorem goes_comes (u : Du) (c : Dev nD) : goes u (comes u c) = c := by revert u c; decide +kernel
/-- Who pays whom, as a bijection of the devices. -/
def goesE (u : Du) : Dev nD ≃ Dev nD := ⟨goes u, comes u, comes_goes u, goes_comes u⟩

/-- The order of the waits: sends' completions first, then the barrier, the hops in turn, the maxima. -/
def iot (u : Du) : ℕ := match u with
  | (0, _) => 1 | (1, h) => 2 + h.val | (2, h) => 2 + h.val | (3, _) => 20 | (4, _) => 0 | (5, _) => 0 | (6, _) => 0

/-- What device `c` still owes after its first `k` payments. -/
def Oat (c : Dev nD) (k : ℕ) : CellTallies nD τ sig ℕ :=
  ∑ i ∈ Finset.Ico k 28, tallyAt (cel (goes (pdu i) c) (pdu i)) (iot (pdu i)) (amt (pdu i))

theorem Oat_peel (c : Dev nD) (k : ℕ) (hk : k < 28) :
    Oat c k = Oat c (k + 1) + tallyAt (cel (goes (pdu k) c) (pdu k)) (iot (pdu k)) (amt (pdu k)) := by
  unfold Oat
  have e : Finset.Ico k 28 = insert k (Finset.Ico (k + 1) 28) := by
    ext i; rw [Finset.mem_insert, Finset.mem_Ico, Finset.mem_Ico]; omega
  rw [e, Finset.sum_insert (by rw [Finset.mem_Ico]; omega), add_comm]
theorem Oat_end (c : Dev nD) : Oat c 28 = 0 := by unfold Oat; simp

theorem pdu_bar (j : Fin 7) : pdu j.val = (0, j) := by revert j; decide +kernel
theorem pdu_F (h : Fin 7) : pdu (7 + 2 * h.val) = (1, h) := by revert h; decide +kernel
theorem pdu_B (h : Fin 7) : pdu (7 + 2 * h.val + 1) = (2, h) := by revert h; decide +kernel
theorem pdu_A (j : Fin 7) : pdu (21 + j.val) = (3, j) := by revert j; decide +kernel

theorem amt_bar (j : Fin 7) : amt (0, j) = 1 := if_pos rfl
theorem amt_slot (k h : Fin 7) (hk : k = 1 ∨ k = 2 ∨ k = 4 ∨ k = 5) : amt (k, h) = Ns := by
  unfold amt
  rw [if_neg (show ¬ k = 0 by revert k; decide), if_neg (show ¬ (k = 3 ∨ k = 6) by revert k; decide)]
theorem amt_row (k h : Fin 7) (hk : k = 3 ∨ k = 6) : amt (k, h) = Na := by
  unfold amt
  rw [if_neg (show ¬ k = 0 by revert k; decide), if_pos hk]
theorem iot_0 (j : Fin 7) : iot (0, j) = 1 := rfl
theorem iot_1 (j : Fin 7) : iot (1, j) = 2 + j.val := rfl
theorem iot_2 (j : Fin 7) : iot (2, j) = 2 + j.val := rfl
theorem iot_3 (j : Fin 7) : iot (3, j) = 20 := rfl
theorem goes_0 (j : Fin 7) (c : Dev nD) : goes (0, j) c = fwd c j := rfl
theorem goes_1 (j : Fin 7) (c : Dev nD) : goes (1, j) c = nxt c := rfl
theorem goes_2 (j : Fin 7) (c : Dev nD) : goes (2, j) c = prv c := rfl
theorem goes_3 (j : Fin 7) (c : Dev nD) : goes (3, j) c = fwd c j := rfl

theorem Oat_bar (c : Dev nD) (j : Fin 7) : Oat c j.val = Oat c (j.val + 1) + tallyAt (cel (fwd c j) (0, j)) 1 1 := by
  rw [Oat_peel c j.val (by omega), pdu_bar, amt_bar, iot_0, goes_0]
theorem Oat_F (c : Dev nD) (h : Fin 7) : Oat c (7 + 2 * h.val) = Oat c (7 + 2 * h.val + 1) + tallyAt (cel (nxt c) (1, h)) (2 + h.val) Ns := by
  rw [Oat_peel c (7 + 2 * h.val) (by omega), pdu_F, amt_slot 1 h (.inl rfl), iot_1, goes_1]
theorem Oat_B (c : Dev nD) (h : Fin 7) : Oat c (7 + 2 * h.val + 1) = Oat c (7 + 2 * (h.val + 1)) + tallyAt (cel (prv c) (2, h)) (2 + h.val) Ns := by
  rw [Oat_peel c (7 + 2 * h.val + 1) (by omega), pdu_B, amt_slot 2 h (.inr (.inl rfl)), iot_2, goes_2]; rfl
theorem Oat_A (c : Dev nD) (j : Fin 7) : Oat c (21 + j.val) = Oat c (21 + (j.val + 1)) + tallyAt (cel (fwd c j) (3, j)) 20 Na := by
  rw [Oat_peel c (21 + j.val) (by omega), pdu_A, amt_row 3 j (.inl rfl), iot_3, goes_3]; rfl

theorem Oat_pos {c : Dev nD} {k : ℕ} {g : GSem nD τ sig} {ι : ℕ} (h : 0 < Oat c k g ι) :
    ∃ i, k ≤ i ∧ i < 28 ∧ g = cel (goes (pdu i) c) (pdu i) ∧ ι = iot (pdu i) := by
  unfold Oat at h
  rw [Finset.sum_apply, Finsupp.finset_sum_apply] at h
  obtain ⟨i, hi, hp⟩ := Finset.exists_ne_zero_of_sum_ne_zero (Nat.pos_iff_ne_zero.mp h)
  rw [tallyAt_apply] at hp
  have hm := Finset.mem_Ico.mp hi
  by_cases hc : g = cel (goes (pdu i) c) (pdu i) ∧ ι = iot (pdu i)
  · exact ⟨i, hm.1, hm.2, hc.1, hc.2⟩
  · rw [if_neg hc] at hp; exact absurd rfl hp

/-! ## The order of the waits -/

def L (g : GSem nD τ sig) : Finset ℕ := if g.1.2 = .tc then Finset.range 30 else ∅
def lv (g : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 30 := if_pos rfl

theorem iot_lt (u : Du) : iot u < 30 := by revert u; decide +kernel

/-- A wait may be made while the payments still to make all come later in the order. -/
theorem mayWait (c : Dev nD) (sm : SemLoc sig) (ι k : ℕ) (hι : ι < 30) (h : ∀ i, k ≤ i → i < 28 → ι < iot (pdu i)) :
    (levAts L lv : sProp 𝕄) ⊢ MayWait (c : Thread nD τ) sm ι (Oat c k) :=
  MayOwe.of_cut (L := L) (lev := lv) ι
    (fun p hp => by rw [Finset.mem_singleton.mp hp, L_tc]; exact Finset.mem_range.mpr hι)
    (fun g u hg => by obtain ⟨i, _, _, rfl, rfl⟩ := Oat_pos hg; rw [L_tc]; exact Finset.mem_range.mpr (iot_lt _))
    (fun p hp => by rw [Finset.mem_singleton.mp hp]; exact Nat.le_refl _)
    (fun g u hg => by obtain ⟨i, h1, h2, rfl, rfl⟩ := Oat_pos hg; exact h i h1 h2)

theorem iot_bar : ∀ i, 7 ≤ i → i < 28 → 1 < iot (pdu i) := by
  intro i h1 h2
  have : ∀ i : Fin 28, 7 ≤ i.val → 1 < iot (pdu i.val) := by decide +kernel
  exact this ⟨i, h2⟩ h1
theorem iot_zero (k : ℕ) : ∀ i, k ≤ i → i < 28 → 0 < iot (pdu i) := by
  intro i h1 h2
  have : ∀ i : Fin 28, 0 < iot (pdu i.val) := by decide +kernel
  exact this ⟨i, h2⟩
theorem iot_hop (h : Fin 7) : ∀ i, 7 + 2 * (h.val + 1) ≤ i → i < 28 → 2 + h.val < iot (pdu i) := by
  intro i h1 h2
  have : ∀ (h : Fin 7) (i : Fin 28), 7 + 2 * (h.val + 1) ≤ i.val → 2 + h.val < iot (pdu i.val) := by decide +kernel
  exact this h ⟨i, h2⟩ h1
theorem iot_end (ι : ℕ) : ∀ i, 28 ≤ i → i < 28 → ι < iot (pdu i) := fun i h1 h2 => by omega

/-! ## The semaphores a device owns, and the facts everybody shares -/

/-- A device's own semaphores: the barrier, then the thirty-two of the copies. -/
def osem (k : Fin 33) : SemLoc sig :=
  if h : k.val = 0 then .reg barS else .dma ⟨k.val + 2, by have := k.isLt; show _ < 35; omega⟩
/-- The place of a payment's semaphore among them. -/
def cix : Du → Fin 33
  | (0, _) => 0
  | (1, h) => ⟨5 + (tgt h).val, by have := (tgt h).isLt; omega⟩
  | (2, h) => ⟨13 + (tgt h).val, by have := (tgt h).isLt; omega⟩
  | (3, j) => ⟨26 + j.val, by omega⟩
  | (4, h) => ⟨1 + (cur h).val, by have := (cur h).isLt; omega⟩
  | (5, h) => ⟨9 + (cur h).val, by have := (cur h).isLt; omega⟩
  | (6, j) => ⟨18 + j.val, by omega⟩
set_option maxRecDepth 20000 in
theorem osem_cix (u : Du) : osem (cix u) = semOf u := by revert u; decide +kernel

abbrev kcell (p : Dev nD × Fin 33) : GSem nD τ sig := ((p.1 : Thread nD τ), osem p.2)

/-- Every own semaphore's cell is under the schedule and has reached its first round. -/
def invs (K : Dev nD × Fin 33 → ℕ) : sProp 𝕄 :=
  bigSep Finset.univ fun p => iprop(cellInv ER (Rd m ρ) (K p) (kcell p) ∗ reached ER (kcell p) 0)
instance invs_persistent (K : Dev nD × Fin 33 → ℕ) : BI.Persistent (invs (F := F) m ρ K) := by unfold invs; infer_instance

variable (K : Dev nD × Fin 33 → ℕ)

theorem invs_at (p : Dev nD × Fin 33) : invs (F := F) m ρ K ⊢ iprop(cellInv ER (Rd m ρ) (K p) (kcell p) ∗ reached ER (kcell p) 0) :=
  bigSep_elim (Finset.mem_univ p)
theorem invs_inv (c : Dev nD) (u : Du) : invs (F := F) m ρ K ⊢ cellInv ER (Rd m ρ) (K (c, cix u)) (cel c u) := by
  have e : kcell (c, cix u) = cel c u := by unfold kcell cel; rw [osem_cix]
  refine (invs_at m ρ K (c, cix u)).trans ?_
  rw [e]
  iintro ⟨#H, -⟩; iexact H
theorem invs_reached (c : Dev nD) (u : Du) : invs (F := F) m ρ K ⊢ reached ER (cel c u) 0 := by
  have e : kcell (c, cix u) = cel c u := by unfold kcell cel; rw [osem_cix]
  refine (invs_at m ρ K (c, cix u)).trans ?_
  rw [e]
  iintro ⟨-, #H⟩; iexact H

/-- What device `c` owes after its first `k` payments, whatever it has waited for. -/
def Ow (c : Dev nD) (k : ℕ) : sProp 𝕄 := iprop(∃ W, owes (c : Thread nD τ) (Oat c k) W)

/-- A separating conjunction over seven indices, written out. -/
theorem bigSep7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

end Cert.KernelIdeal
-- ==== Proof.Views.lean ====
/- What loads, stores and copies do to the buffers' contents. -/
module

public import proofs.«01_k».proof.Proof.Sched
public import Idealize.ShloMosaic.Lib.Pipeline.Value

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Slots -/

/-- Slot `s` is the indices whose first coordinate is `s`. -/
theorem mem_slotR (s : Fin 4) (i : S4x256x4096.Idx) : i ∈ (slotR s).set ↔ i 0 = s := by
  rw [Rect.mem_set_unit]
  constructor
  · intro h
    have h0 := h 0
    have e : (i 0).val = s.val := by
      have h1 : s.val ≤ (i 0).val := h0.1
      have h2 : (i 0).val < s.val + 1 := h0.2
      omega
    exact Fin.ext e
  · intro h a
    have h0 : (i 0).val = s.val := congrArg Fin.val h
    match a with
    | ⟨0, _⟩ => exact ⟨by show s.val ≤ (i 0).val; omega, by show (i 0).val < s.val + 1; omega⟩
    | ⟨1, _⟩ => exact ⟨Nat.zero_le _, by have := (i 1).isLt; show (i 1).val < 0 + 256; rw [Nat.zero_add]; exact this⟩
    | ⟨2, _⟩ => exact ⟨Nat.zero_le _, by have := (i 2).isLt; show (i 2).val < 0 + 4096; rw [Nat.zero_add]; exact this⟩

/-- The indices under slot `s` of the forward buffer. -/
theorem slot_set_f (s : Fin 4) : (slotM fM s).view.set = (slotR s).set := by
  show (((View.whole cc0_scratch0).slice (slotR s)).reshape S256x4096 _).set = _
  rw [View.set_reshape]; exact View.set_slice_whole _ _
/-- The indices under slot `s` of the backward buffer. -/
theorem slot_set_b (s : Fin 4) : (slotM bM s).view.set = (slotR s).set := by
  show (((View.whole cc0_scratch1).slice (slotR s)).reshape S256x4096 _).set = _
  rw [View.set_reshape]; exact View.set_slice_whole _ _

theorem slot_disjoint {s t : Fin 4} (h : s ≠ t) : Disjoint (slotR s).set (slotR t).set := by
  rw [Finset.disjoint_left]
  intro i hs ht
  exact h (((mem_slotR s i).mp hs).symm.trans ((mem_slotR t i).mp ht))
theorem slot_cover (i : S4x256x4096.Idx) : ∃ s : Fin 4, i ∈ (slotR s).set := ⟨i 0, (mem_slotR _ i).mpr rfl⟩

/-- A load of slot `s` reads what the slot holds. -/
theorem slot_load_f (s : Fin 4) (V : Vec F S1x256x4096 .f32) : fM.view.readAt (Elt F) (slotR s).toLoadRect (slotBuf V) = V := by
  funext i
  show V (ix3 0 _ _) = V i
  congr 1
  rw [eq_ix3 i]
  have h0 : i 0 = (0 : Fin 1) := Fin.ext (by have : (i 0).val < 1 := (i 0).isLt; show (i 0).val = 0; omega)
  funext a
  match a with
  | ⟨0, _⟩ => exact h0.symm
  | ⟨1, _⟩ => exact Fin.ext (show 0 + 1 * (i 1).val = (i 1).val by omega)
  | ⟨2, _⟩ => exact Fin.ext (show 0 + 1 * (i 2).val = (i 2).val by omega)
/-- A load of slot `s` reads what the slot holds. -/
theorem slot_load_b (s : Fin 4) (V : Vec F S1x256x4096 .f32) : bM.view.readAt (Elt F) (slotR s).toLoadRect (slotBuf V) = V :=
  slot_load_f s V

/-- After a store of `V` into slot `s` the slot holds `V`. -/
theorem slot_store_f (s : Fin 4) (f : S4x256x4096.Idx → F .f32) (V : Vec F S1x256x4096 .f32) :
    ∀ i ∈ (slotR s).set, (fM.access (slotR s)).write (Elt F) f V Finset.univ i = slotBuf V i := by
  intro i hi
  rw [← Rect.map_emb_univ] at hi
  obtain ⟨j, -, rfl⟩ := Finset.mem_map.mp hi
  refine (View.write_emb_of_mem (v := fM.access (slotR s)) (Val := Elt F) f V (Finset.mem_univ j)).trans ?_
  exact (congrFun (slot_load_f s V) j).symm
/-- After a store of `V` into slot `s` the slot holds `V`. -/
theorem slot_store_b (s : Fin 4) (f : S4x256x4096.Idx → F .f32) (V : Vec F S1x256x4096 .f32) :
    ∀ i ∈ (slotR s).set, (bM.access (slotR s)).write (Elt F) f V Finset.univ i = slotBuf V i := by
  intro i hi
  rw [← Rect.map_emb_univ] at hi
  obtain ⟨j, -, rfl⟩ := Finset.mem_map.mp hi
  refine (View.write_emb_of_mem (v := bM.access (slotR s)) (Val := Elt F) f V (Finset.mem_univ j)).trans ?_
  exact (congrFun (slot_load_b s V) j).symm

/-- A copy of slot `s` into slot `t` leaves slot `t` holding what slot `s` held. -/
theorem slot_copy_f (s t : Fin 4) (f : S4x256x4096.Idx → F .f32) (V : Vec F S1x256x4096 .f32) :
    ∀ i ∈ (slotM fM t).view.set, (slotM fM t).view.write (Elt F) f ((slotM fM s).view.read (Elt F) (slotBuf V)) Finset.univ i = slotBuf V i := by
  intro i hi
  obtain ⟨j, -, rfl⟩ := Finset.mem_map.mp hi
  exact (View.write_emb_of_mem (v := (slotM fM t).view) (Val := Elt F) f _ (Finset.mem_univ j)).trans rfl
/-- A copy of slot `s` into slot `t` leaves slot `t` holding what slot `s` held. -/
theorem slot_copy_b (s t : Fin 4) (f : S4x256x4096.Idx → F .f32) (V : Vec F S1x256x4096 .f32) :
    ∀ i ∈ (slotM bM t).view.set, (slotM bM t).view.write (Elt F) f ((slotM bM s).view.read (Elt F) (slotBuf V)) Finset.univ i = slotBuf V i := by
  intro i hi
  obtain ⟨j, -, rfl⟩ := Finset.mem_map.mp hi
  exact (View.write_emb_of_mem (v := (slotM bM t).view) (Val := Elt F) f _ (Finset.mem_univ j)).trans rfl

/-! ## Rows of the maxima -/

/-- The rectangle of a row, under either name, is the indices of that row. -/
theorem mem_row {off : Fin 2 → ℕ} (c : Dev nD) (h : off = ![c.val, 0]) (inb) (i : S8x128.Idx) :
    i ∈ (Rect.unit (s := S8x128) off S1x128.size inb).set ↔ i 0 = c := by
  subst h
  rw [Rect.mem_set_unit]
  constructor
  · intro h
    have h0 := h 0
    have e : (i 0).val = c.val := by
      have h1 : c.val ≤ (i 0).val := h0.1
      have h2 : (i 0).val < c.val + 1 := h0.2
      omega
    exact Fin.ext e
  · intro h a
    have h0 : (i 0).val = c.val := congrArg Fin.val h
    match a with
    | ⟨0, _⟩ => exact ⟨by show c.val ≤ (i 0).val; omega, by show (i 0).val < c.val + 1; omega⟩
    | ⟨1, _⟩ => exact ⟨Nat.zero_le _, by have := (i 1).isLt; show (i 1).val < 0 + 128; rw [Nat.zero_add]; exact this⟩

/-- The indices under row `c` of the table. -/
theorem mem_rowM (c : Dev nD) (i : S8x128.Idx) : i ∈ (rowM rM c).view.set ↔ i 0 = c := by
  rw [← mem_row c (k0_off4_eq c) (k0_off4_inb c) i]
  exact iff_of_eq (congrArg (i ∈ ·) (View.set_slice_whole cc0_scratch3 _))
theorem row_set (c : Dev nD) : (rM.access (rowR c)).set = (rowM rM c).view.set := by
  ext i
  rw [mem_rowM, ← mem_row c (k0_off3_eq c) (k0_off3_inb c) i]
  exact iff_of_eq (congrArg (i ∈ ·) (View.set_slice_whole cc0_scratch3 _))

theorem row_disjoint {c d : Dev nD} (h : c ≠ d) : Disjoint (rowM rM c).view.set (rowM rM d).view.set := by
  rw [Finset.disjoint_left]
  intro i hs ht
  exact h (((mem_rowM c i).mp hs).symm.trans ((mem_rowM d i).mp ht))
theorem row_cover (i : S8x128.Idx) : ∃ c : Dev nD, i ∈ (rowM rM c).view.set := ⟨i 0, (mem_rowM _ i).mpr rfl⟩

theorem tx_set : (txM tM).view.set = Finset.univ := by
  show ((View.whole cc0_scratch2).slice txR).set = _
  rw [View.set_slice_whole]
  ext i
  rw [Rect.mem_set_unit]
  refine iff_of_true (fun a => ?_) (Finset.mem_univ _)
  match a with
  | ⟨0, _⟩ => exact ⟨Nat.zero_le _, by have := (i 0).isLt; show (i 0).val < 0 + 1; rw [Nat.zero_add]; exact this⟩
  | ⟨1, _⟩ => exact ⟨Nat.zero_le _, by have := (i 1).isLt; show (i 1).val < 0 + 128; rw [Nat.zero_add]; exact this⟩

theorem tx_load (f : S1x128.Idx → F .f32) : tM.view.readAt (Elt F) txR.toLoadRect f = f := by
  exact Memref.read_access_unit_zero (Elt F) cc0_scratch2 (funext fun a => by fin_cases a <;> rfl) _ f

variable (m : (ℓ : Loc nD τ sig) → Buf (Elt F) ℓ) (ρ : Dev nD → PrngReg)

/-- The value a row's index has inside the device's own maximum. -/
theorem rx_emb {off : Fin 2 → ℕ} (c : Dev nD) (h : off = ![c.val, 0]) (inb) (j : S1x128.Idx) :
    rxV m ρ ((Rect.unit (s := S8x128) off S1x128.size inb).emb j) = txV m ρ c j := by
  subst h
  have h0 : j 0 = (0 : Fin 1) := Fin.ext (by have : (j 0).val < 1 := (j 0).isLt; show (j 0).val = 0; omega)
  have e0 : ((Rect.unit (s := S8x128) ![c.val, 0] S1x128.size inb).emb j) 0 = c :=
    Fin.ext (show c.val + 1 * (j 0).val = c.val by rw [h0]; rfl)
  unfold rxV
  rw [e0]
  congr 1
  funext a
  match a with
  | ⟨0, _⟩ => exact h0.symm
  | ⟨1, _⟩ => exact Fin.ext (show 0 + 1 * (j 1).val = (j 1).val by omega)

/-- The device's own row after its store. -/
theorem row_store (c : Dev nD) (f : S8x128.Idx → F .f32) :
    ∀ i ∈ (rowM rM c).view.set, (rM.access (rowR c)).write (Elt F) f (k0_pay32 (txV m ρ c)) Finset.univ i = rxV m ρ i := by
  intro i hi
  rw [← row_set] at hi
  obtain ⟨j, -, rfl⟩ := Finset.mem_map.mp hi
  refine (View.write_emb_of_mem (v := rM.access (rowR c)) (Val := Elt F) f _ (Finset.mem_univ j)).trans ?_
  refine Eq.trans ?_ (rx_emb m ρ c (k0_off3_eq c) (k0_off3_inb c) j).symm
  show k0_pay32 (txV m ρ c) j = _
  unfold k0_pay32
  exact congrFun (Idealize.ShloMosaic.shapeCast_self _ _) j

/-- The device's row on another device after the copy lands. -/
theorem row_copy (c : Dev nD) (f : S8x128.Idx → F .f32) :
    ∀ i ∈ (rowM rM c).view.set, (rowM rM c).view.write (Elt F) f ((txM tM).view.read (Elt F) (txV m ρ c)) Finset.univ i = rxV m ρ i := by
  intro i hi
  obtain ⟨j, -, rfl⟩ := Finset.mem_map.mp hi
  refine (View.write_emb_of_mem (v := (rowM rM c).view) (Val := Elt F) f _ (Finset.mem_univ j)).trans ?_
  refine Eq.trans ?_ (rx_emb m ρ c (k0_off4_eq c) (k0_off4_inb c) j).symm
  exact congrFun (tx_load (txV m ρ c)) j

/-! ## Blocks of the result -/

/-- The block of 256 rows an index of the result lies in. -/
def blk (i : S4096x256.Idx) : Fin 16 := ⟨(i 0).val / 256, by have : (i 0).val < 4096 := (i 0).isLt; omega⟩
/-- An index's place in its block. -/
def inBlk (i : S4096x256.Idx) : S256x256.Idx := ix2 ⟨(i 0).val % 256, Nat.mod_lt _ (by decide)⟩ (i 1)

/-- A store of a block of 256 rows. -/
theorem block_store {off : Fin 2 → ℕ} (b : Fin 16) (h : off = ![256 * b.val, 0]) (inb) (f : S4096x256.Idx → F .f32) (P : Vec F S256x256 .f32)
    (i : S4096x256.Idx) :
    (oM.access (Rect.unit (s := S4096x256) off S256x256.size inb)).write (Elt F) f P Finset.univ i = if blk i = b then P (inBlk i) else f i := by
  subst h
  split
  · rename_i hb
    have h0 : (i 0).val / 256 = b.val := congrArg Fin.val hb
    have e : (oM.access (Rect.unit (s := S4096x256) ![256 * b.val, 0] S256x256.size inb)).emb (inBlk i) = i := by
      funext a
      match a with
      | ⟨0, _⟩ => exact Fin.ext (show 256 * b.val + 1 * ((i 0).val % 256) = (i 0).val by omega)
      | ⟨1, _⟩ => exact Fin.ext (show 0 + 1 * (i 1).val = (i 1).val by omega)
    conv_lhs => rw [← e]
    exact View.write_emb_of_mem (v := oM.access (Rect.unit (s := S4096x256) ![256 * b.val, 0] S256x256.size inb)) (Val := Elt F) f P (Finset.mem_univ _)
  · rename_i hb
    refine View.write_of_not_mem _ _ _ fun hm => hb ?_
    obtain ⟨j, -, e⟩ := Finset.mem_map.mp hm
    have e0 : (i 0).val = 256 * b.val + 1 * (j 0).val := (congrArg (fun k : S4096x256.Idx => (k 0).val) e).symm
    have : (j 0).val < 256 := (j 0).isLt
    exact Fin.ext (show (i 0).val / 256 = b.val by omega)

/-- The block of rows that is device `d`'s top half. -/
def tb (d : Dev nD) : Fin 16 := ⟨2 * d.val, by have : d.val < 8 := d.isLt; omega⟩
/-- The block of rows that is device `d`'s bottom half. -/
def bb (d : Dev nD) : Fin 16 := ⟨2 * d.val + 1, by have : d.val < 8 := d.isLt; omega⟩

theorem Yv_top (c d : Dev nD) (i : S4096x256.Idx) (h : blk i = tb d) : Yv m ρ c i = k0_pay9 (Wv m ρ c) (topV m ρ d) (inBlk i) := by
  have h0 : (i 0).val / 256 = 2 * d.val := congrArg Fin.val h
  have e : (⟨(i 0).val / 512, by have : (i 0).val < 4096 := (i 0).isLt; show _ < 8; omega⟩ : Dev nD) = d := Fin.ext (by show (i 0).val / 512 = d.val; omega)
  unfold Yv
  dsimp only
  rw [if_pos (by omega), e]
  rfl
theorem Yv_bot (c d : Dev nD) (i : S4096x256.Idx) (h : blk i = bb d) : Yv m ρ c i = k0_pay9 (Wv m ρ c) (botV m ρ d) (inBlk i) := by
  have h0 : (i 0).val / 256 = 2 * d.val + 1 := congrArg Fin.val h
  have e : (⟨(i 0).val / 512, by have : (i 0).val < 4096 := (i 0).isLt; show _ < 8; omega⟩ : Dev nD) = d := Fin.ext (by show (i 0).val / 512 = d.val; omega)
  unfold Yv
  dsimp only
  rw [if_neg (by omega), e]
  rfl

/-- The blocks of the first `h` hops are in place. -/
def Good (c : Dev nD) (h : ℕ) (f : S4096x256.Idx → F .f32) : Prop :=
  ∀ h' < h, ∀ i, (blk i = tb (orgF h' c) ∨ blk i = bb (orgB h' c)) → f i = Yv m ρ c i

/-- One more hop's two stores put two more blocks in place, in either order of the two. -/
theorem good_step (c : Dev nD) (h : ℕ) (f f₁ f₂ : S4096x256.Idx → F .f32) (hg : Good m ρ c h f)
    (h₁ : ∀ i, f₁ i = if blk i = tb (orgF h c) then k0_pay9 (Wv m ρ c) (topV m ρ (orgF h c)) (inBlk i) else f i)
    (h₂ : ∀ i, f₂ i = if blk i = bb (orgB h c) then k0_pay9 (Wv m ρ c) (botV m ρ (orgB h c)) (inBlk i) else f₁ i) :
    Good m ρ c (h + 1) f₂ := by
  intro h' hh i hi
  rw [h₂]
  split
  · rename_i e; exact (Yv_bot m ρ c _ i e).symm
  · rename_i e
    rw [h₁]
    split
    · rename_i e'; exact (Yv_top m ρ c _ i e').symm
    · rename_i e'
      rcases Nat.lt_succ_iff_lt_or_eq.mp hh with hlt | rfl
      · exact hg h' hlt i hi
      · rcases hi with hi | hi
        · exact absurd hi e'
        · exact absurd hi e

theorem orgs_cover : ∀ (c : Dev nD) (b : Fin 16), ∃ h' < 8, b = tb (orgF h' c) ∨ b = bb (orgB h' c) := by decide +kernel

/-- After all eight pairs the result's blocks are all in place. -/
theorem good_all (c : Dev nD) (f : S4096x256.Idx → F .f32) (hg : Good m ρ c 8 f) : f = Yv m ρ c := by
  funext i
  obtain ⟨h', hh, hi⟩ := orgs_cover c (blk i)
  exact hg h' hh i hi

/-- Where the hops store. -/
theorem offF (c : Dev nD) (h : Fin 7) : k0_off1 c (k0_off1_at h.castSucc).1 (k0_off1_at h.castSucc).2 = ![256 * (tb (orgF h.val c)).val, 0] := by
  revert c h; decide +kernel
theorem offB (c : Dev nD) (h : Fin 7) : k0_off2 c (k0_off2_at h.castSucc).1 (k0_off2_at h.castSucc).2 = ![256 * (bb (orgB h.val c)).val, 0] := by
  revert c h; decide +kernel
theorem offF7 (c : Dev nD) : k0_off2 c (k0_off2_at 7).1 (k0_off2_at 7).2 = ![256 * (tb (orgF 7 c)).val, 0] := by
  revert c; decide +kernel
theorem offB7 (c : Dev nD) : k0_off1 c (k0_off1_at 7).1 (k0_off1_at 7).2 = ![256 * (bb (orgB 7 c)).val, 0] := by
  revert c; decide +kernel

end Cert.KernelIdeal
-- ==== Proof.Steps.lean ====
/- The steps of the run: a signal, a wait, a copy, each with what it hands over. -/
module

public import proofs.«01_k».proof.Proof.Owed
public import proofs.«01_k».proof.Proof.Views

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

abbrev 𝒱₀ : Variants := Variants.none

/-- The weakest precondition of a program of device `c`'s core. -/
abbrev wpc (c : Dev nD) (p : CoreProg F) (Q : PUnit → sProp 𝕄) : sProp 𝕄 :=
  wp frame (wpE (defs₀ (F := F)) 𝒱₀ (c : Thread nD τ) none) Set.univ p Q

theorem amount_eq (c : Dev nD) (u : Du) (r : ℕ) : (Rd (F := F) m ρ).amount (cel c u) r u = amt u := rfl
theorem payload_eq (c : Dev nD) (u : Du) (r : ℕ) : (Rd (F := F) m ρ).payload (cel c u) r u = pay m ρ c u := rfl

theorem payload_bar (c : Dev nD) (j : Fin 7) : barPay c j = (Rd (F := F) m ρ).payload ((c : Thread nD τ), SemLoc.reg barS) 0 (0, j) := rfl
/-- What a copy of one slot adds to a semaphore. -/
theorem credit_f (s : Fin 4) : (slotM fM s).view.dmaCredit = Ns := by revert s; decide +kernel
theorem credit_b (s : Fin 4) : (slotM bM s).view.dmaCredit = Ns := by revert s; decide +kernel
/-- What a copy of one row adds to a semaphore. -/
theorem credit_r (d : Dev nD) : (rowM rM d).view.dmaCredit = Na := by revert d; decide +kernel

/-! ## The barrier -/

/-- One barrier signal: the row of maxima and the slots the receiver fills first go with it. -/
theorem step_signal (c : Dev nD) (j : Fin 7) (Q : PUnit → sProp 𝕄) (k : CoreProg F) :
    iprop(invs m ρ K ∗ Ow c j.val ∗ dutyTok ER (cel (fwd c j) (0, j)) 0 (0, j) ∗ barPay (fwd c j) j)
      ⊢ iprop((Ow c (j.val + 1) -∗ wpc c k Q) -∗ wpc c (sigP c j k) Q) := by
  unfold sigP
  rw [devS_eq]
  unfold Ow
  iintro ⟨#HI, ⟨%W, HO⟩, Ht, Hp⟩ Hk
  iapply (Rounds.wp_signal 𝒱₀ ER (Rd m ρ) (c : Thread nD τ) none (dst := (fwd c j : Thread nD τ)) (κ := K (fwd c j, cix (0, j)))
      (d := (0, j)) (r := 0) (duties_mem m ρ (fwd c j) (0, j)) ((amount_eq m ρ (fwd c j) (0, j) 0).trans ((amt_bar j).trans (by decide))) 1 (Oat c (j.val + 1)) (Oat_bar c j))
    $$ [HO Ht Hp]
  · isplitr; · iapply (invs_inv m ρ K (fwd c j) (0, j)); iexact HI
    isplitl [HO]; · iexact HO
    isplitl [Ht]; · iexact Ht
    isplitl [Hp]; · iapply (Entails.of_eq (payload_bar m ρ (fwd c j) j)); iexact Hp
    iapply (invs_reached m ρ K (fwd c j) (0, j)); iexact HI
  iintro HO
  iapply Hk
  iexists W; iexact HO

/-- The barrier wait: everybody's handovers arrive. -/
theorem step_barrier (c : Dev nD) (Q : PUnit → sProp 𝕄) (k : PUnit → CoreProg F) :
    iprop(invs m ρ K ∗ levAts L lv ∗ Ow c 7 ∗ cred (tallyAt ((c : Thread nD τ), .reg barS) 1 7) ∗ atPos ER ((c : Thread nD τ), .reg barS) 0 ∅ 0)
      ⊢ iprop(((Ow c 7 ∗ atPos ER ((c : Thread nD τ), .reg barS) 1 ∅ 0 ∗ bigSep Finset.univ (fun j : Fin 7 => barPay (F := F) c j)) -∗ wpc c (k ⟨⟩) Q)
          -∗ wpc c (.op (.semWait barS (7#32).toInt) k) Q) := by
  unfold Ow
  iintro ⟨#HI, #Hlev, ⟨%W, HO⟩, Hc, Hat⟩ Hk
  iapply (Rounds.wp_wait_rest_token 𝒱₀ ER (Rd m ρ) (c : Thread nD τ) none (κ := K (c, cix (0, 0)))
      (wpE_semWait_eq 𝒱₀ (c : Thread nD τ) none Set.univ) (Set.mem_univ _) 1 (O := Oat c 7) (W := W) (R := 0) (m := 0) (T := ∅)
      (by rw [expect_bar]; decide)) $$ [Hc HO Hat]
  · isplitr; · iapply (invs_inv m ρ K c (0, 0)); iexact HI
    isplitl [Hc]; · iexact Hc
    isplitl [HO]; · iexact HO
    isplitr; · iapply (mayWait c _ 1 7 (by decide) iot_bar); iexact Hlev
    iexact Hat
  iintro ⟨HO, Hat, -, Hpay⟩
  iapply Hk
  isplitl [HO]; · iexists _; iexact HO
  isplitl [Hat]; · iexact Hat
  iapply (Entails.of_eq (rest_bar m ρ c)); iexact Hpay

/-! ## Waits on the copies' semaphores -/

/-- A wait for one payment: its handover arrives. -/
theorem step_wait (c : Dev nD) (u : Du) (hu : u.1 ≠ 0) (n : ℕ) (hn : ∀ i, n ≤ i → i < 28 → iot u < iot (pdu i)) {q : DmaSem sig} (hq : semOf u = .dma q)
    {s : Shape} {src dst : Memref sig .tc .vmem s .f32} {hsrc : src.view.WordExact} {hdst : dst.view.WordExact} (hN : dst.view.dmaCredit = amt u)
    (Q : PUnit → sProp 𝕄) (k : PUnit → CoreProg F) :
    iprop(invs m ρ K ∗ levAts L lv ∗ Ow c n ∗ cred (tallyAt (cel c u) (iot u) (amt u)) ∗ atPos ER (cel c u) (rnd u) ∅ 0)
      ⊢ iprop(((Ow c n ∗ atPos ER (cel c u) (rnd u + 1) ∅ 0 ∗ reached ER (cel c u) (rnd u + 1) ∗ pay m ρ c u) -∗ wpc c (k ⟨⟩) Q)
          -∗ wpc c (.op (.waitDma2 q src dst hsrc hdst) k) Q) := by
  have e : cel c u = ((c : Thread nD τ), SemLoc.dma q) := by unfold cel; rw [hq]
  have hR : 0 + dst.view.dmaCredit = (Rd (F := F) m ρ).expect ((c : Thread nD τ), SemLoc.dma q) (rnd u) := by
    rw [← e, expect_single m ρ c u hu, hN, Nat.zero_add]
  have hP := rest_single (F := F) m ρ c u hu
  have hI := invs_inv (F := F) m ρ K c u
  rw [e] at hP hI
  rw [e, ← hN]
  unfold Ow
  iintro ⟨#HI, #Hlev, ⟨%W, HO⟩, Hc, Hat⟩ Hk
  iapply (Rounds.wp_wait_rest_token 𝒱₀ ER (Rd m ρ) (c : Thread nD τ) none (κ := K (c, cix u))
      (wpE_waitDma2_eq 𝒱₀ (c : Thread nD τ) none Set.univ) (Set.mem_univ _) (iot u) (O := Oat c n) (W := W) (R := rnd u) (m := 0) (T := ∅)
      hR) $$ [Hc HO Hat]
  · isplitr; · iapply hI; iexact HI
    isplitl [Hc]; · iexact Hc
    isplitl [HO]; · iexact HO
    isplitr; · iapply (mayWait c _ (iot u) n (iot_lt u) hn); iexact Hlev
    iexact Hat
  iintro ⟨HO, Hat, Hr, Hpay⟩
  iapply Hk
  isplitl [HO]; · iexists _; iexact HO
  isplitl [Hat]; · iexact Hat
  isplitl [Hr]; · iexact Hr
  iapply (Entails.of_eq hP); iexact Hpay

/-! ## Copies -/

/-- The forward copy of hop `h`. -/
theorem step_sendF (c : Dev nD) (h : Fin 7) (f : S4x256x4096.Idx → F .f32) (Q : PUnit → sProp 𝕄) (k : CoreProg F) :
    iprop(invs m ρ K ∗ fS c (cur h) fullShare.left (slotBuf (topV m ρ (orgF h.val c))) ∗ fS (nxt c) (tgt h) fullShare f ∗ feedF (nxt c) h ∗ Ow c (7 + 2 * h.val)
        ∗ dutyTok ER (cel c (4, h)) (rnd (4, h)) (4, h) ∗ reached ER (cel c (4, h)) (rnd (4, h))
        ∗ dutyTok ER (cel (nxt c) (1, h)) (rnd (1, h)) (1, h) ∗ reached ER (cel (nxt c) (1, h)) (rnd (1, h)))
      ⊢ iprop(((cred (tallyAt (cel c (4, h)) (iot (4, h)) (amt (4, h))) ∗ Ow c (7 + 2 * h.val + 1)) -∗ wpc c k Q)
          -∗ wpc c (sendP fM cc0_scratch4 cc0_scratch5 (devF c h) h k) Q) := by
  have go : ∀ (n : Dev nD) (hn : n = nxt c) (qS qR : DmaSem sig) (hS : qS = sfQ (cur h)) (hR : qR = rfQ (tgt h))
      {hsc : (slotM fM (tgt h) : Memref sig (Dev.tc n : Thread nD τ).2.kind .vmem S256x4096 .f32).view.ref.isScScratch = false}
      {hsrc : (slotM fM (cur h)).view.WordExact} {hdst : (slotM fM (tgt h)).view.WordExact}
      {hsem : DmaTarget.Typed .vmem (.dma qR) (.remote (Dev.tc n : Thread nD τ) (slotM fM (tgt h)) (.dma qS) hsc)} (k' : PUnit → CoreProg F),
      iprop(invs m ρ K ∗ fS c (cur h) fullShare.left (slotBuf (topV m ρ (orgF h.val c))) ∗ fS (nxt c) (tgt h) fullShare f ∗ feedF (nxt c) h ∗ Ow c (7 + 2 * h.val)
        ∗ dutyTok ER (cel c (4, h)) (rnd (4, h)) (4, h) ∗ reached ER (cel c (4, h)) (rnd (4, h))
        ∗ dutyTok ER (cel (nxt c) (1, h)) (rnd (1, h)) (1, h) ∗ reached ER (cel (nxt c) (1, h)) (rnd (1, h)))
      ⊢ iprop(((cred (tallyAt (cel c (4, h)) (iot (4, h)) (amt (4, h))) ∗ Ow c (7 + 2 * h.val + 1)) -∗ wpc c (k' ⟨⟩) Q)
          -∗ wpc c (.op (.enqueueDma (slotM fM (cur h)) (.remote (Dev.tc n : Thread nD τ) (slotM fM (tgt h)) (.dma qS) hsc) (.dma qR) hsrc hdst hsem) k') Q) := by
    intro n hn qS qR hS hR hsc hsrc hdst hsem k'
    subst hn hS hR
    have e4 := amt_slot 4 h (.inr (.inr (.inl rfl)))
    have e1 := amt_slot 1 h (.inl rfl)
    unfold Ow fS
    rw [e4]
    iintro ⟨#HI, Hsrc, Hdst, HF, ⟨%W, HO⟩, Ht1, Hr1, Ht2, Hr2⟩ Hk
    iapply (Rounds.wp_send_pointsTo_with 𝒱₀ ER (Rd m ρ) (c : Thread nD τ) none (c' := (nxt c : Thread nD τ)) (κ₁ := K (c, cix (4, h))) (κ₂ := K (nxt c, cix (1, h)))
      (r₁ := rnd (4, h)) (r₂ := rnd (1, h)) (d₁ := (4, h)) (d₂ := (1, h)) (fd := f) (F := feedF (nxt c) h)
      (duties_mem m ρ c (4, h)) (duties_mem m ρ (nxt c) (1, h))
      (2 + h.val) 0 Ns (credit_f (tgt h)) ((amount_eq m ρ c (4, h) _).trans e4) ((amount_eq m ρ (nxt c) (1, h) _).trans e1) (Oat c (7 + 2 * h.val + 1)) (Oat_F c h) (W := W)
      (by exact BI.Entails.refl _)
      (by
        refine BI.Entails.trans ?_ (Entails.of_eq (payload_eq m ρ (nxt c) (1, h) _).symm)
        show _ ⊢ iprop(fS (nxt c) (tgt h) fullShare (slotBuf (topV m ρ (orgF (h.val + 1) (nxt c)))) ∗ feedF (nxt c) h)
        rw [show orgF (h.val + 1) (nxt c) = orgF h.val c from congrArg (orgF h.val) (prv_nxt c)]
        unfold fS
        rw [pointsTo_congr (slot_copy_f (cur h) (tgt h) f (topV m ρ (orgF h.val c)))])) $$ [Hsrc Hdst HF HO Ht1 Hr1 Ht2 Hr2]
    · isplitr; · iapply (invs_inv m ρ K c (4, h)); iexact HI
      isplitr; · iapply (invs_inv m ρ K (nxt c) (1, h)); iexact HI
      isplitl [Hsrc]; · iexact Hsrc
      isplitl [Hdst HF]; · isplitl [Hdst] <;> iassumption
      isplitl [HO]; · iexact HO
      isplitl [Ht1]; · iexact Ht1
      isplitl [Hr1]; · iexact Hr1
      isplitl [Ht2]; · iexact Ht2
      iexact Hr2
    iintro ⟨Hc, HO⟩
    iapply Hk
    isplitl [Hc]; · iexact Hc
    iexists W; iexact HO
  exact go (devF c h) (devF_eq c h) _ _ (sem4_sf (cur h)) (sem4_rf (tgt h)) fun _ => k

/-- The backward copy of hop `h`. -/
theorem step_sendB (c : Dev nD) (h : Fin 7) (f : S4x256x4096.Idx → F .f32) (Q : PUnit → sProp 𝕄) (k : CoreProg F) :
    iprop(invs m ρ K ∗ bS c (cur h) fullShare.left (slotBuf (botV m ρ (orgB h.val c))) ∗ bS (prv c) (tgt h) fullShare f ∗ feedB (prv c) h ∗ Ow c (7 + 2 * h.val + 1)
        ∗ dutyTok ER (cel c (5, h)) (rnd (5, h)) (5, h) ∗ reached ER (cel c (5, h)) (rnd (5, h))
        ∗ dutyTok ER (cel (prv c) (2, h)) (rnd (2, h)) (2, h) ∗ reached ER (cel (prv c) (2, h)) (rnd (2, h)))
      ⊢ iprop(((cred (tallyAt (cel c (5, h)) (iot (5, h)) (amt (5, h))) ∗ Ow c (7 + 2 * (h.val + 1))) -∗ wpc c k Q)
          -∗ wpc c (sendP bM cc0_scratch6 cc0_scratch7 (devB c h) h k) Q) := by
  have go : ∀ (n : Dev nD) (hn : n = prv c) (qS qR : DmaSem sig) (hS : qS = sbQ (cur h)) (hR : qR = rbQ (tgt h))
      {hsc : (slotM bM (tgt h) : Memref sig (Dev.tc n : Thread nD τ).2.kind .vmem S256x4096 .f32).view.ref.isScScratch = false}
      {hsrc : (slotM bM (cur h)).view.WordExact} {hdst : (slotM bM (tgt h)).view.WordExact}
      {hsem : DmaTarget.Typed .vmem (.dma qR) (.remote (Dev.tc n : Thread nD τ) (slotM bM (tgt h)) (.dma qS) hsc)} (k' : PUnit → CoreProg F),
      iprop(invs m ρ K ∗ bS c (cur h) fullShare.left (slotBuf (botV m ρ (orgB h.val c))) ∗ bS (prv c) (tgt h) fullShare f ∗ feedB (prv c) h ∗ Ow c (7 + 2 * h.val + 1)
        ∗ dutyTok ER (cel c (5, h)) (rnd (5, h)) (5, h) ∗ reached ER (cel c (5, h)) (rnd (5, h))
        ∗ dutyTok ER (cel (prv c) (2, h)) (rnd (2, h)) (2, h) ∗ reached ER (cel (prv c) (2, h)) (rnd (2, h)))
      ⊢ iprop(((cred (tallyAt (cel c (5, h)) (iot (5, h)) (amt (5, h))) ∗ Ow c (7 + 2 * (h.val + 1))) -∗ wpc c (k' ⟨⟩) Q)
          -∗ wpc c (.op (.enqueueDma (slotM bM (cur h)) (.remote (Dev.tc n : Thread nD τ) (slotM bM (tgt h)) (.dma qS) hsc) (.dma qR) hsrc hdst hsem) k') Q) := by
    intro n hn qS qR hS hR hsc hsrc hdst hsem k'
    subst hn hS hR
    have e4 := amt_slot 5 h (.inr (.inr (.inr rfl)))
    have e1 := amt_slot 2 h (.inr (.inl rfl))
    unfold Ow bS
    rw [e4]
    iintro ⟨#HI, Hsrc, Hdst, HF, ⟨%W, HO⟩, Ht1, Hr1, Ht2, Hr2⟩ Hk
    iapply (Rounds.wp_send_pointsTo_with 𝒱₀ ER (Rd m ρ) (c : Thread nD τ) none (c' := (prv c : Thread nD τ)) (κ₁ := K (c, cix (5, h))) (κ₂ := K (prv c, cix (2, h)))
      (r₁ := rnd (5, h)) (r₂ := rnd (2, h)) (d₁ := (5, h)) (d₂ := (2, h)) (fd := f) (F := feedB (prv c) h)
      (duties_mem m ρ c (5, h)) (duties_mem m ρ (prv c) (2, h))
      (2 + h.val) 0 Ns (credit_b (tgt h)) ((amount_eq m ρ c (5, h) _).trans e4) ((amount_eq m ρ (prv c) (2, h) _).trans e1) (Oat c (7 + 2 * (h.val + 1))) (Oat_B c h) (W := W)
      (by exact BI.Entails.refl _)
      (by
        refine BI.Entails.trans ?_ (Entails.of_eq (payload_eq m ρ (prv c) (2, h) _).symm)
        show _ ⊢ iprop(bS (prv c) (tgt h) fullShare (slotBuf (botV m ρ (orgB (h.val + 1) (prv c)))) ∗ feedB (prv c) h)
        rw [show orgB (h.val + 1) (prv c) = orgB h.val c from congrArg (orgB h.val) (nxt_prv c)]
        unfold bS
        rw [pointsTo_congr (slot_copy_b (cur h) (tgt h) f (botV m ρ (orgB h.val c)))])) $$ [Hsrc Hdst HF HO Ht1 Hr1 Ht2 Hr2]
    · isplitr; · iapply (invs_inv m ρ K c (5, h)); iexact HI
      isplitr; · iapply (invs_inv m ρ K (prv c) (2, h)); iexact HI
      isplitl [Hsrc]; · iexact Hsrc
      isplitl [Hdst HF]; · isplitl [Hdst] <;> iassumption
      isplitl [HO]; · iexact HO
      isplitl [Ht1]; · iexact Ht1
      isplitl [Hr1]; · iexact Hr1
      isplitl [Ht2]; · iexact Ht2
      iexact Hr2
    iintro ⟨Hc, HO⟩
    iapply Hk
    isplitl [Hc]; · iexact Hc
    iexists W; iexact HO
  exact go (devB c h) (devB_eq c h) _ _ (sem4_sb (cur h)) (sem4_rb (tgt h)) fun _ => k

/-- The copy of the device's own maximum to the `j`-th other device. -/
theorem step_sendA (c : Dev nD) (j : Fin 7) (f : S8x128.Idx → F .f32) (Q : PUnit → sProp 𝕄) (k : CoreProg F) :
    iprop(invs m ρ K ∗ tS c (shareTok fullShare 7 j) (txV m ρ c) ∗ rS (fwd c j) c f ∗ Ow c (21 + j.val)
        ∗ dutyTok ER (cel c (6, j)) 0 (6, j) ∗ dutyTok ER (cel (fwd c j) (3, j)) 0 (3, j))
      ⊢ iprop(((cred (tallyAt (cel c (6, j)) (iot (6, j)) (amt (6, j))) ∗ Ow c (21 + (j.val + 1))) -∗ wpc c k Q)
          -∗ wpc c (sendA tM rM cc0_scratch8 cc0_scratch9 c j k) Q) := by
  have go : ∀ (n : Dev nD) (hn : n = fwd c j) (qS qR : DmaSem sig) (hS : qS = saQ j) (hR : qR = raQ j)
      {hsc : (rowM rM c : Memref sig (Dev.tc n : Thread nD τ).2.kind .vmem S1x128 .f32).view.ref.isScScratch = false}
      {hsrc : (txM tM).view.WordExact} {hdst : (rowM rM c).view.WordExact}
      {hsem : DmaTarget.Typed .vmem (.dma qR) (.remote (Dev.tc n : Thread nD τ) (rowM rM c) (.dma qS) hsc)} (k' : PUnit → CoreProg F),
      iprop(invs m ρ K ∗ tS c (shareTok fullShare 7 j) (txV m ρ c) ∗ rS (fwd c j) c f ∗ Ow c (21 + j.val)
        ∗ dutyTok ER (cel c (6, j)) 0 (6, j) ∗ dutyTok ER (cel (fwd c j) (3, j)) 0 (3, j))
      ⊢ iprop(((cred (tallyAt (cel c (6, j)) (iot (6, j)) (amt (6, j))) ∗ Ow c (21 + (j.val + 1))) -∗ wpc c (k' ⟨⟩) Q)
          -∗ wpc c (.op (.enqueueDma (txM tM) (.remote (Dev.tc n : Thread nD τ) (rowM rM c) (.dma qS) hsc) (.dma qR) hsrc hdst hsem) k') Q) := by
    intro n hn qS qR hS hR hsc hsrc hdst hsem k'
    subst hn hS hR
    have e4 := amt_row 6 j (.inr rfl)
    have e1 := amt_row 3 j (.inl rfl)
    unfold Ow tS rS
    rw [e4]
    iintro ⟨#HI, Hsrc, Hdst, ⟨%W, HO⟩, Ht1, Ht2⟩ Hk
    iapply (Rounds.wp_send_pointsTo 𝒱₀ ER (Rd m ρ) (c : Thread nD τ) none (c' := (fwd c j : Thread nD τ)) (κ₁ := K (c, cix (6, j))) (κ₂ := K (fwd c j, cix (3, j)))
      (r₁ := 0) (r₂ := 0) (d₁ := (6, j)) (d₂ := (3, j)) (fd := f)
      (duties_mem m ρ c (6, j)) (duties_mem m ρ (fwd c j) (3, j))
      20 0 Na (credit_r c) ((amount_eq m ρ c (6, j) _).trans e4) ((amount_eq m ρ (fwd c j) (3, j) _).trans e1) (Oat c (21 + (j.val + 1))) (Oat_A c j) (W := W)
      (by exact BI.Entails.refl _)
      (by
        refine BI.Entails.trans ?_ (Entails.of_eq (payload_eq m ρ (fwd c j) (3, j) _).symm)
        show _ ⊢ rS (fwd c j) (bwd (fwd c j) j) (rxV m ρ)
        rw [bwd_fwd]
        unfold rS
        rw [pointsTo_congr (row_copy m ρ c f)])) $$ [Hsrc Hdst HO Ht1 Ht2]
    · isplitr; · iapply (invs_inv m ρ K c (6, j)); iexact HI
      isplitr; · iapply (invs_inv m ρ K (fwd c j) (3, j)); iexact HI
      isplitl [Hsrc]; · iexact Hsrc
      isplitl [Hdst]; · iexact Hdst
      isplitl [HO]; · iexact HO
      isplitl [Ht1]; · iexact Ht1
      isplitr; · iapply (invs_reached m ρ K c (6, j)); iexact HI
      isplitl [Ht2]; · iexact Ht2
      iapply (invs_reached m ρ K (fwd c j) (3, j)); iexact HI
    iintro ⟨Hc, HO⟩
    iapply Hk
    isplitl [Hc]; · iexact Hc
    iexists W; iexact HO
  exact go (devA c j) (devA_eq c j) _ _ (sem8_sa j) (sem8_ra j) fun _ => k

end Cert.KernelIdeal
-- ==== Proof.Hop.lean ====
/- One hop of the ring: send both halves on, multiply both, wait for both. -/
module

public import proofs.«01_k».proof.Proof.Steps

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

/-- The device's result buffer. -/
def oS (c : Dev nD) (f : S4096x256.Idx → F .f32) : sProp 𝕄 := oM.view.loc (c : Thread nD τ) ↦[Finset.univ]{fullShare} f

theorem slot_sub_f (s : Fin 4) : fM.view.setOn (slotR s).toLoadRect.set ⊆ (slotM fM s).view.set := by
  rw [slot_set_f]; intro i hi
  obtain ⟨j, hj, rfl⟩ := Finset.mem_map.mp hi
  exact hj
theorem slot_sub_b (s : Fin 4) : bM.view.setOn (slotR s).toLoadRect.set ⊆ (slotM bM s).view.set := by
  rw [slot_set_b]; intro i hi
  obtain ⟨j, hj, rfl⟩ := Finset.mem_map.mp hi
  exact hj

/-- One product from a slot of the forward buffer: a block of the result gets its values. -/
theorem step_gemmF (c : Dev nD) (s : Fin 4) (q : PosShare TreeShare) (V : Vec F S1x256x4096 .f32) (W : FVec F S4096x256 .f32)
    (b : Fin 16) {off : Fin 2 → ℕ} (ho : off = ![256 * b.val, 0]) (inb) (g : S4096x256.Idx → F .f32)
    (Q : PUnit → sProp 𝕄) (k : Vec F S1x256x4096 .f32 → CoreProg F) :
    iprop(fS c s q (slotBuf V) ∗ oS c g)
      ⊢ iprop(((fS c s q (slotBuf V) ∗ ∃ g', ⌜∀ i, g' i = if blk i = b then k0_pay9 W V (inBlk i) else g i⌝ ∗ oS c g') -∗ wpc c (k V) Q)
          -∗ wpc c (gemmP oM fM s off inb W k) Q) := by
  unfold gemmP fS oS
  iintro ⟨Hf, Ho⟩ Hk
  iapply (wp_load 𝒱₀ (c : Thread nD τ) none Set.univ (m := fM) (slot_sub_f s)) $$ Hf; iintro Hf
  rw [slot_load_f]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x256) off S256x256.size inb) (Mk := Finset.univ) (Finset.subset_univ _)) $$ Ho; iintro Ho
  iapply Hk
  isplitl [Hf]; · iexact Hf
  iexists _
  isplitr; · ipureintro; exact block_store b ho inb g (k0_pay9 W V)
  iexact Ho

/-- One product from a slot of the backward buffer. -/
theorem step_gemmB (c : Dev nD) (s : Fin 4) (q : PosShare TreeShare) (V : Vec F S1x256x4096 .f32) (W : FVec F S4096x256 .f32)
    (b : Fin 16) {off : Fin 2 → ℕ} (ho : off = ![256 * b.val, 0]) (inb) (g : S4096x256.Idx → F .f32)
    (Q : PUnit → sProp 𝕄) (k : Vec F S1x256x4096 .f32 → CoreProg F) :
    iprop(bS c s q (slotBuf V) ∗ oS c g)
      ⊢ iprop(((bS c s q (slotBuf V) ∗ ∃ g', ⌜∀ i, g' i = if blk i = b then k0_pay9 W V (inBlk i) else g i⌝ ∗ oS c g') -∗ wpc c (k V) Q)
          -∗ wpc c (gemmP oM bM s off inb W k) Q) := by
  unfold gemmP bS oS
  iintro ⟨Hf, Ho⟩ Hk
  iapply (wp_load 𝒱₀ (c : Thread nD τ) none Set.univ (m := bM) (slot_sub_b s)) $$ Hf; iintro Hf
  rw [slot_load_b]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x256) off S256x256.size inb) (Mk := Finset.univ) (Finset.subset_univ _)) $$ Ho; iintro Ho
  iapply Hk
  isplitl [Hf]; · iexact Hf
  iexists _
  isplitr; · ipureintro; exact block_store b ho inb g (k0_pay9 W V)
  iexact Ho

/-- Half a share twice is the whole. -/
theorem fS_halves (c : Dev nD) (s : Fin 4) (f : S4x256x4096.Idx → F .f32) :
    fS c s fullShare f ⊣⊢ iprop(fS c s fullShare.left f ∗ fS c s fullShare.right f) :=
  pointsTo_share (PosShare.mem_left_op_right fullShare)
theorem bS_halves (c : Dev nD) (s : Fin 4) (f : S4x256x4096.Idx → F .f32) :
    bS c s fullShare f ⊣⊢ iprop(bS c s fullShare.left f ∗ bS c s fullShare.right f) :=
  pointsTo_share (PosShare.mem_left_op_right fullShare)

/-! ## One hop -/

/-- The tokens and credits of hop `h`. -/
def HR (c : Dev nD) (h : Fin 7) : sProp 𝕄 :=
  iprop(dutyTok ER (cel c (4, h)) (rnd (4, h)) (4, h) ∗ dutyTok ER (cel (nxt c) (1, h)) (rnd (1, h)) (1, h)
    ∗ dutyTok ER (cel c (5, h)) (rnd (5, h)) (5, h) ∗ dutyTok ER (cel (prv c) (2, h)) (rnd (2, h)) (2, h)
    ∗ cred (tallyAt (cel c (1, h)) (iot (1, h)) (amt (1, h))) ∗ cred (tallyAt (cel c (2, h)) (iot (2, h)) (amt (2, h))))
/-- The positions hop `h` waits at. -/
def HP (c : Dev nD) (h : Fin 7) : sProp 𝕄 :=
  iprop(atPos ER (cel c (4, h)) (rnd (4, h)) ∅ 0 ∗ atPos ER (cel c (1, h)) (rnd (1, h)) ∅ 0
    ∗ atPos ER (cel c (5, h)) (rnd (5, h)) ∅ 0 ∗ atPos ER (cel c (2, h)) (rnd (2, h)) ∅ 0)
/-- The positions after hop `h`, with the fact that they are reached. -/
def HP' (c : Dev nD) (h : Fin 7) : sProp 𝕄 :=
  iprop((atPos ER (cel c (4, h)) (rnd (4, h) + 1) ∅ 0 ∗ atPos ER (cel c (1, h)) (rnd (1, h) + 1) ∅ 0
    ∗ atPos ER (cel c (5, h)) (rnd (5, h) + 1) ∅ 0 ∗ atPos ER (cel c (2, h)) (rnd (2, h) + 1) ∅ 0)
    ∗ reached ER (cel c (4, h)) (rnd (4, h) + 1) ∗ reached ER (cel c (1, h)) (rnd (1, h) + 1)
    ∗ reached ER (cel c (5, h)) (rnd (5, h) + 1) ∗ reached ER (cel c (2, h)) (rnd (2, h) + 1))

theorem pay_1 (c : Dev nD) (h : Fin 7) : pay (F := F) m ρ c (1, h) = iprop(fS c (tgt h) fullShare (slotBuf (topV m ρ (orgF (h.val + 1) c))) ∗ feedF c h) := rfl
theorem pay_2 (c : Dev nD) (h : Fin 7) : pay (F := F) m ρ c (2, h) = iprop(bS c (tgt h) fullShare (slotBuf (botV m ρ (orgB (h.val + 1) c))) ∗ feedB c h) := rfl
theorem pay_4 (c : Dev nD) (h : Fin 7) : pay (F := F) m ρ c (4, h) = fS c (cur h) fullShare.left (slotBuf (topV m ρ (orgF h.val c))) := rfl
theorem pay_5 (c : Dev nD) (h : Fin 7) : pay (F := F) m ρ c (5, h) = bS c (cur h) fullShare.left (slotBuf (botV m ρ (orgB h.val c))) := rfl

/-- A wait for a forward send, a forward landing, a backward send, a backward landing. -/
theorem step_waits (c : Dev nD) (h : Fin 7) (Q : PUnit → sProp 𝕄) (k : CoreProg F) :
    iprop(invs m ρ K ∗ levAts L lv ∗ Ow c (7 + 2 * (h.val + 1)) ∗ HP c h
        ∗ cred (tallyAt (cel c (4, h)) (iot (4, h)) (amt (4, h))) ∗ cred (tallyAt (cel c (1, h)) (iot (1, h)) (amt (1, h)))
        ∗ cred (tallyAt (cel c (5, h)) (iot (5, h)) (amt (5, h))) ∗ cred (tallyAt (cel c (2, h)) (iot (2, h)) (amt (2, h))))
      ⊢ iprop(((Ow c (7 + 2 * (h.val + 1)) ∗ HP' c h ∗ pay m ρ c (4, h) ∗ pay m ρ c (1, h) ∗ pay m ρ c (5, h) ∗ pay m ρ c (2, h)) -∗ wpc c k Q)
          -∗ wpc c (waitP fM (sem4 cc0_scratch4 (cur h)) (tgt h) (cur h) <| waitP fM (sem4 cc0_scratch5 (tgt h)) (cur h) (tgt h) <|
              waitP bM (sem4 cc0_scratch6 (cur h)) (tgt h) (cur h) <| waitP bM (sem4 cc0_scratch7 (tgt h)) (cur h) (tgt h) k) Q) := by
  unfold HP HP'
  iintro ⟨#HI, #Hlev, HO, ⟨Hp4, Hp1, Hp5, Hp2⟩, Hc4, Hc1, Hc5, Hc2⟩ Hk
  iapply (step_wait m ρ K c (4, h) (by revert h; decide) _ (iot_zero _) (congrArg SemLoc.dma (sem4_sf (cur h)).symm)
    ((credit_f (cur h)).trans (amt_slot 4 h (.inr (.inr (.inl rfl)))).symm)) $$ [HO Hc4 Hp4]
  · isplitr; · iexact HI
    isplitr; · iexact Hlev
    isplitl [HO]; · iexact HO
    isplitl [Hc4]; · iexact Hc4
    iexact Hp4
  iintro ⟨HO, Hp4, Hr4, Hy4⟩
  iapply (step_wait m ρ K c (1, h) (by revert h; decide) _ (iot_hop h) (congrArg SemLoc.dma (sem4_rf (tgt h)).symm)
    ((credit_f (tgt h)).trans (amt_slot 1 h (.inl rfl)).symm)) $$ [HO Hc1 Hp1]
  · isplitr; · iexact HI
    isplitr; · iexact Hlev
    isplitl [HO]; · iexact HO
    isplitl [Hc1]; · iexact Hc1
    iexact Hp1
  iintro ⟨HO, Hp1, Hr1, Hy1⟩
  iapply (step_wait m ρ K c (5, h) (by revert h; decide) _ (iot_zero _) (congrArg SemLoc.dma (sem4_sb (cur h)).symm)
    ((credit_b (cur h)).trans (amt_slot 5 h (.inr (.inr (.inr rfl)))).symm)) $$ [HO Hc5 Hp5]
  · isplitr; · iexact HI
    isplitr; · iexact Hlev
    isplitl [HO]; · iexact HO
    isplitl [Hc5]; · iexact Hc5
    iexact Hp5
  iintro ⟨HO, Hp5, Hr5, Hy5⟩
  iapply (step_wait m ρ K c (2, h) (by revert h; decide) _ (iot_hop h) (congrArg SemLoc.dma (sem4_rb (tgt h)).symm)
    ((credit_b (tgt h)).trans (amt_slot 2 h (.inr (.inl rfl))).symm)) $$ [HO Hc2 Hp2]
  · isplitr; · iexact HI
    isplitr; · iexact Hlev
    isplitl [HO]; · iexact HO
    isplitl [Hc2]; · iexact Hc2
    iexact Hp2
  iintro ⟨HO, Hp2, Hr2, Hy2⟩
  iapply Hk
  isplitl [HO]; · iexact HO
  isplitl [Hp4 Hp1 Hp5 Hp2 Hr4 Hr1 Hr5 Hr2]
  · isplitl [Hp4 Hp1 Hp5 Hp2]
    · isplitl [Hp4]; · iexact Hp4
      isplitl [Hp1]; · iexact Hp1
      isplitl [Hp5] <;> iassumption
    isplitl [Hr4]; · iexact Hr4
    isplitl [Hr1]; · iexact Hr1
    isplitl [Hr5] <;> iassumption
  isplitl [Hy4]; · iexact Hy4
  isplitl [Hy1]; · iexact Hy1
  isplitl [Hy5] <;> iassumption

/-- A hop: what it needs, and what it leaves. -/
theorem hop_core (c : Dev nD) (h : Fin 7) (Q : PUnit → sProp 𝕄) (k : F .f32 → CoreProg F) :
    iprop(invs m ρ K ∗ levAts L lv ∗ fS c (cur h) fullShare (slotBuf (topV m ρ (orgF h.val c))) ∗ bS c (cur h) fullShare (slotBuf (botV m ρ (orgB h.val c)))
        ∗ (∃ f, fS (nxt c) (tgt h) fullShare f) ∗ (∃ f, bS (prv c) (tgt h) fullShare f) ∗ feedF (nxt c) h ∗ feedB (prv c) h
        ∗ Ow c (7 + 2 * h.val) ∗ (∃ g, ⌜Good m ρ c h.val g⌝ ∗ oS c g) ∗ HR c h ∗ HP c h
        ∗ reached ER (cel c (4, h)) (rnd (4, h)) ∗ reached ER (cel c (5, h)) (rnd (5, h))
        ∗ reached ER (cel (nxt c) (1, h)) (rnd (1, h)) ∗ reached ER (cel (prv c) (2, h)) (rnd (2, h)))
      ⊢ iprop(((fS c (cur h) fullShare (slotBuf (topV m ρ (orgF h.val c))) ∗ bS c (cur h) fullShare (slotBuf (botV m ρ (orgB h.val c)))
          ∗ pay m ρ c (1, h) ∗ pay m ρ c (2, h)
          ∗ Ow c (7 + 2 * (h.val + 1)) ∗ (∃ g, ⌜Good m ρ c (h.val + 1) g⌝ ∗ oS c g) ∗ HP' c h) -∗ wpc c (k (mx m ρ c (h.val + 1))) Q)
          -∗ wpc c (hopP oM fM bM cc0_scratch4 cc0_scratch5 cc0_scratch6 cc0_scratch7 c (Wv m ρ c) h (mx m ρ c h.val) k) Q) := by
  unfold hopP HR
  iintro ⟨#HI, #Hlev, Hf, Hb, ⟨%tf, Htf⟩, ⟨%tb', Htb⟩, HfF, HfB, HO, ⟨%g, %hg, Hg⟩, ⟨Ht4, Ht1, Ht5, Ht2, Hc1, Hc2⟩, HP, Hr4, Hr5, Hr1, Hr2⟩ Hk
  ihave Hf := (fS_halves c (cur h) _).1 $$ Hf
  icases Hf with ⟨HfL, HfR⟩
  ihave Hb := (bS_halves c (cur h) _).1 $$ Hb
  icases Hb with ⟨HbL, HbR⟩
  iapply (step_sendF m ρ K c h tf) $$ [HfL Htf HfF HO Ht4 Hr4 Ht1 Hr1]
  · isplitr; · iexact HI
    isplitl [HfL]; · iexact HfL
    isplitl [Htf]; · iexact Htf
    isplitl [HfF]; · iexact HfF
    isplitl [HO]; · iexact HO
    isplitl [Ht4]; · iexact Ht4
    isplitl [Hr4]; · iexact Hr4
    isplitl [Ht1] <;> iassumption
  iintro ⟨Hc4, HO⟩
  iapply (step_sendB m ρ K c h tb') $$ [HbL Htb HfB HO Ht5 Hr5 Ht2 Hr2]
  · isplitr; · iexact HI
    isplitl [HbL]; · iexact HbL
    isplitl [Htb]; · iexact Htb
    isplitl [HfB]; · iexact HfB
    isplitl [HO]; · iexact HO
    isplitl [Ht5]; · iexact Ht5
    isplitl [Hr5]; · iexact Hr5
    isplitl [Ht2] <;> iassumption
  iintro ⟨Hc5, HO⟩
  iapply (step_gemmF c (cur h) fullShare.right (topV m ρ (orgF h.val c)) (Wv m ρ c) (tb (orgF h.val c)) (offF c h) (k0_off1_inb c h.castSucc) g) $$ [HfR Hg]
  · isplitl [HfR] <;> iassumption
  iintro ⟨HfR, %g₁, %hg₁, Hg⟩
  iapply (step_gemmB c (cur h) fullShare.right (botV m ρ (orgB h.val c)) (Wv m ρ c) (bb (orgB h.val c)) (offB c h) (k0_off2_inb c h.castSucc) g₁) $$ [HbR Hg]
  · isplitl [HbR] <;> iassumption
  iintro ⟨HbR, %g₂, %hg₂, Hg⟩
  iapply (step_waits m ρ K c h) $$ [HO HP Hc4 Hc1 Hc5 Hc2]
  · isplitr; · iexact HI
    isplitr; · iexact Hlev
    isplitl [HO]; · iexact HO
    isplitl [HP]; · iexact HP
    isplitl [Hc4]; · iexact Hc4
    isplitl [Hc1]; · iexact Hc1
    isplitl [Hc5] <;> iassumption
  rw [pay_4, pay_5]
  iintro ⟨HO, HP, HfL, Hy1, HbL, Hy2⟩
  iapply Hk
  isplitl [HfL HfR]; · iapply (fS_halves c (cur h) _).2; isplitl [HfL] <;> iassumption
  isplitl [HbL HbR]; · iapply (bS_halves c (cur h) _).2; isplitl [HbL] <;> iassumption
  isplitl [Hy1]; · iexact Hy1
  isplitl [Hy2]; · iexact Hy2
  isplitl [HO]; · iexact HO
  isplitl [Hg]
  · iexists g₂; isplitr
    · ipureintro; exact good_step m ρ c h.val g g₁ g₂ hg hg₁ hg₂
    iexact Hg
  iexact HP

end Cert.KernelIdeal
-- ==== Proof.Ring.lean ====
/- The seven hops in turn: the state before each and how one hop leads to the next. -/
module

public import proofs.«01_k».proof.Proof.Hop

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

/-- Slot number `n`, counted around. -/
abbrev sl (n : ℕ) : Fin 4 := ⟨n % 4, Nat.mod_lt _ (by decide)⟩

/-- The semaphores of the hops, by kind, for hop number `n` counted past the last hop. -/
def semN (k : Fin 4) (n : ℕ) : SemLoc sig := match k with
  | 0 => .dma (sfQ (sl n)) | 1 => .dma (rfQ (sl (n + 1))) | 2 => .dma (sbQ (sl n)) | 3 => .dma (rbQ (sl (n + 1)))
/-- The position of device `c` on it before hop `n`. -/
def posN (c : Dev nD) (k : Fin 4) (n : ℕ) : sProp 𝕄 := atPos ER ((c : Thread nD τ), semN k n) (n / 4) ∅ 0
/-- That position is reached. -/
def rchN (c : Dev nD) (k : Fin 4) (n : ℕ) : sProp 𝕄 := reached ER ((c : Thread nD τ), semN k n) (n / 4)
instance rchN_persistent (c : Dev nD) (k : Fin 4) (n : ℕ) : BI.Persistent (rchN (F := F) c k n) := by unfold rchN; infer_instance

theorem sl_add (n : ℕ) : sl (n + 4) = sl n := Fin.ext (Nat.add_mod_right n 4)
theorem semN_add (k : Fin 4) (n : ℕ) : semN k (n + 4) = semN k n := by
  have e : sl (n + 4 + 1) = sl (n + 1) := sl_add (n + 1)
  fin_cases k
  · exact congrArg (fun s => SemLoc.dma (sfQ s)) (sl_add n)
  · exact congrArg (fun s => SemLoc.dma (rfQ s)) e
  · exact congrArg (fun s => SemLoc.dma (sbQ s)) (sl_add n)
  · exact congrArg (fun s => SemLoc.dma (rbQ s)) e

/-- The kind's number among the payments. -/
def kd : Fin 4 → Fin 7 | 0 => 4 | 1 => 1 | 2 => 5 | 3 => 2
theorem semOf_kd (k : Fin 4) (h : Fin 7) : semOf (kd k, h) = semN k h.val := by revert k h; decide +kernel
theorem rnd_kd (k : Fin 4) (h : Fin 7) : rnd (kd k, h) = h.val / 4 := by revert k h; decide +kernel

theorem pos_kd (c : Dev nD) (k : Fin 4) (h : Fin 7) : (atPos ER (cel c (kd k, h)) (rnd (kd k, h)) ∅ 0 : sProp 𝕄) = posN c k h.val := by
  unfold posN cel; rw [semOf_kd, rnd_kd]
theorem pos_kd' (c : Dev nD) (k : Fin 4) (h : Fin 7) : (atPos ER (cel c (kd k, h)) (rnd (kd k, h) + 1) ∅ 0 : sProp 𝕄) = posN c k (h.val + 4) := by
  unfold posN cel; rw [semOf_kd, rnd_kd, semN_add, Nat.add_div_right _ (by decide)]
theorem rch_kd (c : Dev nD) (k : Fin 4) (h : Fin 7) : (reached ER (cel c (kd k, h)) (rnd (kd k, h)) : sProp 𝕄) = rchN c k h.val := by
  unfold rchN cel; rw [semOf_kd, rnd_kd]
theorem rch_kd' (c : Dev nD) (k : Fin 4) (h : Fin 7) : (reached ER (cel c (kd k, h)) (rnd (kd k, h) + 1) : sProp 𝕄) = rchN c k (h.val + 4) := by
  unfold rchN cel; rw [semOf_kd, rnd_kd, semN_add, Nat.add_div_right _ (by decide)]

/-- The four positions before hop `n`. -/
def P4 (c : Dev nD) (n : ℕ) : sProp 𝕄 := iprop(posN c 0 n ∗ posN c 1 n ∗ posN c 2 n ∗ posN c 3 n)
/-- They are reached. -/
def R4 (c : Dev nD) (n : ℕ) : sProp 𝕄 := iprop(rchN c 0 n ∗ rchN c 1 n ∗ rchN c 2 n ∗ rchN c 3 n)
instance R4_persistent (c : Dev nD) (n : ℕ) : BI.Persistent (R4 (F := F) c n) := by unfold R4; infer_instance

theorem HP_eq (c : Dev nD) (h : Fin 7) : HP (F := F) c h = P4 c h.val := by
  have e0 := pos_kd (F := F) c 0 h
  have e1 := pos_kd (F := F) c 1 h
  have e2 := pos_kd (F := F) c 2 h
  have e3 := pos_kd (F := F) c 3 h
  unfold HP P4; rw [← e0, ← e1, ← e2, ← e3]; rfl
theorem HP'_eq (c : Dev nD) (h : Fin 7) : HP' (F := F) c h = iprop(P4 c (h.val + 4) ∗ R4 c (h.val + 4)) := by
  have e0 := pos_kd' (F := F) c 0 h
  have e1 := pos_kd' (F := F) c 1 h
  have e2 := pos_kd' (F := F) c 2 h
  have e3 := pos_kd' (F := F) c 3 h
  have f0 := rch_kd' (F := F) c 0 h
  have f1 := rch_kd' (F := F) c 1 h
  have f2 := rch_kd' (F := F) c 2 h
  have f3 := rch_kd' (F := F) c 3 h
  unfold HP' P4 R4; rw [← e0, ← e1, ← e2, ← e3, ← f0, ← f1, ← f2, ← f3]; rfl

/-- What hop `n` needs of the next device: the slot to fill there. -/
def tgF (c : Dev nD) (n : ℕ) : sProp 𝕄 := if n < 7 then iprop((∃ f, fS (nxt c) (sl (n + 1)) fullShare f) ∗ rchN (nxt c) 1 n) else iprop(emp)
/-- What hop `n` needs of the previous device. -/
def tgB (c : Dev nD) (n : ℕ) : sProp 𝕄 := if n < 7 then iprop((∃ f, bS (prv c) (sl (n + 1)) fullShare f) ∗ rchN (prv c) 3 n) else iprop(emp)

theorem feedB_eq (c : Dev nD) (h : Fin 7) : feedB (F := F) c h = tgF c (h.val + 1) := by
  unfold feedB tgF
  by_cases hh : h.val < 6
  · rw [dif_pos hh, if_pos (by omega)]
    have f1 := rch_kd (F := F) (nxt c) 1 ⟨h.val + 1, by omega⟩
    rw [show rchN (F := F) (nxt c) 1 (h.val + 1) = _ from f1.symm]; rfl
  · rw [dif_neg hh, if_neg (by omega)]
theorem feedF_eq (c : Dev nD) (h : Fin 7) : feedF (F := F) c h = tgB c (h.val + 1) := by
  unfold feedF tgB
  by_cases hh : h.val < 6
  · rw [dif_pos hh, if_pos (by omega)]
    have f1 := rch_kd (F := F) (prv c) 3 ⟨h.val + 1, by omega⟩
    rw [show rchN (F := F) (prv c) 3 (h.val + 1) = _ from f1.symm]; rfl
  · rw [dif_neg hh, if_neg (by omega)]

/-- A free slot of each buffer. -/
def free (c : Dev nD) (s : Fin 4) : sProp 𝕄 := iprop((∃ f, fS c s fullShare f) ∗ (∃ f, bS c s fullShare f))
/-- After the last hop the slot that would have been given away is still there. -/
def extra (c : Dev nD) (n : ℕ) : sProp 𝕄 := if n = 7 then free c (sl (n + 1)) else iprop(emp)

/-- What device `c` gives its neighbours with hop `h`'s copies. -/
theorem give (c : Dev nD) (h : Fin 7) :
    iprop(free c (sl (h.val + 2)) ∗ R4 c (h.val + 1)) ⊢ iprop(tgB (F := F) (nxt c) (h.val + 1) ∗ tgF (prv c) (h.val + 1) ∗ extra c (h.val + 1)) := by
  unfold tgF tgB extra
  rw [prv_nxt, nxt_prv]
  by_cases hh : h.val < 6
  · rw [if_pos (by omega), if_pos (by omega), if_neg (by omega)]
    unfold free R4
    iintro ⟨⟨Hf, Hb⟩, -, Hr1, -, Hr3⟩
    isplitl [Hb Hr3]; · isplitl [Hb] <;> iassumption
    isplitl; · isplitl [Hf] <;> iassumption
    iempintro
  · rw [if_neg (by omega), if_neg (by omega), if_pos (by omega)]
    iintro ⟨H, -⟩
    isplitr; · iempintro
    isplitr; · iempintro
    iexact H

/-- Device `c` before hop `n`: the slot to read, the free slots, what its neighbours gave it, its debts, its result so far,
    its positions. -/
def St (c : Dev nD) (n : ℕ) : sProp 𝕄 :=
  iprop(fS c (sl n) fullShare (slotBuf (topV m ρ (orgF n c))) ∗ bS c (sl n) fullShare (slotBuf (botV m ρ (orgB n c)))
    ∗ free c (sl (n + 2)) ∗ free c (sl (n + 3)) ∗ extra c n ∗ tgF c n ∗ tgB c n
    ∗ Ow c (7 + 2 * n) ∗ (∃ g, ⌜Good m ρ c n g⌝ ∗ oS c g)
    ∗ (P4 c n ∗ P4 c (n + 1) ∗ P4 c (n + 2) ∗ P4 c (n + 3))
    ∗ (R4 c n ∗ R4 c (n + 1) ∗ R4 c (n + 2) ∗ R4 c (n + 3)))

/-- One hop takes the state before it to the state before the next. -/
theorem hop (c : Dev nD) (h : Fin 7) (Q : PUnit → sProp 𝕄) (k : F .f32 → CoreProg F) :
    iprop(invs m ρ K ∗ levAts L lv ∗ St m ρ c h.val ∗ HR c h)
      ⊢ iprop((St m ρ c (h.val + 1) -∗ wpc c (k (mx m ρ c (h.val + 1))) Q)
          -∗ wpc c (hopP oM fM bM cc0_scratch4 cc0_scratch5 cc0_scratch6 cc0_scratch7 c (Wv m ρ c) h (mx m ρ c h.val) k) Q) := by
  have hc := hop_core m ρ K c h Q k
  rw [pay_1, pay_2, HP_eq, HP'_eq, feedF_eq, feedF_eq, feedB_eq, feedB_eq] at hc
  have f0 : (reached ER (cel c (4, h)) (rnd (4, h)) : sProp 𝕄) = rchN c 0 h.val := rch_kd c 0 h
  have f2 : (reached ER (cel c (5, h)) (rnd (5, h)) : sProp 𝕄) = rchN c 2 h.val := rch_kd c 2 h
  have f1 : (reached ER (cel (nxt c) (1, h)) (rnd (1, h)) : sProp 𝕄) = rchN (nxt c) 1 h.val := rch_kd (nxt c) 1 h
  have f3 : (reached ER (cel (prv c) (2, h)) (rnd (2, h)) : sProp 𝕄) = rchN (prv c) 3 h.val := rch_kd (prv c) 3 h
  rw [f0, f1, f2, f3] at hc
  unfold St
  rw [show tgF (F := F) c h.val = _ from if_pos h.isLt, show tgB (F := F) c h.val = _ from if_pos h.isLt,
    show extra (F := F) c h.val = _ from if_neg (by have := h.isLt; omega)]
  iintro ⟨#HI, #Hlev, ⟨Hf, Hb, Hfr2, Hfr3, -, ⟨Htf, Hr1⟩, ⟨Htb, Hr3⟩, HO, Hg, ⟨HP0, HP1, HP2, HP3⟩, ⟨HR0, #HR1, HR2, HR3⟩⟩, HH⟩ Hk
  unfold R4
  icases HR0 with ⟨Hr0, -, Hr2, -⟩
  ihave Hgv := (give c h) $$ [Hfr2]
  · isplitl [Hfr2]; · iexact Hfr2
    unfold R4; iexact HR1
  icases Hgv with ⟨HgB, HgF, Hex⟩
  iapply hc $$ [Hf Hb Htf Htb HgB HgF HO Hg HH HP0 Hr0 Hr2 Hr1 Hr3]
  · isplitr; · iexact HI
    isplitr; · iexact Hlev
    isplitl [Hf]; · iexact Hf
    isplitl [Hb]; · iexact Hb
    isplitl [Htf]; · iexact Htf
    isplitl [Htb]; · iexact Htb
    isplitl [HgB]; · iexact HgB
    isplitl [HgF]; · iexact HgF
    isplitl [HO]; · iexact HO
    isplitl [Hg]; · iexact Hg
    isplitl [HH]; · iexact HH
    isplitl [HP0]; · iexact HP0
    isplitl [Hr0]; · iexact Hr0
    isplitl [Hr2]; · iexact Hr2
    isplitl [Hr1]; · iexact Hr1
    iexact Hr3
  iintro ⟨Hf, Hb, ⟨Hf', HtB⟩, ⟨Hb', HtF⟩, HO, Hg, HP4, HR4⟩
  iapply Hk
  isplitl [Hf']; · iexact Hf'
  isplitl [Hb']; · iexact Hb'
  isplitl [Hfr3]; · iexact Hfr3
  isplitl [Hf Hb]
  · rw [show sl (h.val + 1 + 3) = cur h from sl_add h.val]
    unfold free
    isplitl [Hf]; · iexists _; iexact Hf
    iexists _; iexact Hb
  isplitl [Hex]; · iexact Hex
  isplitl [HtF]; · iexact HtF
  isplitl [HtB]; · iexact HtB
  isplitl [HO]; · iexact HO
  isplitl [Hg]; · iexact Hg
  isplitl [HP1 HP2 HP3 HP4]
  · isplitl [HP1]; · iexact HP1
    isplitl [HP2]; · iexact HP2
    isplitl [HP3]; · iexact HP3
    iexact HP4
  isplitr; · iexact HR1
  isplitl [HR2]; · iexact HR2
  isplitl [HR3]; · iexact HR3
  unfold R4
  iexact HR4

/-- The same with the hops' numbers as given. -/
theorem hop_at (c : Dev nD) (h : Fin 7) (n n' : ℕ) (hn : n = h.val) (hn' : n' = n + 1) (Q : PUnit → sProp 𝕄) (k : F .f32 → CoreProg F) :
    iprop(invs m ρ K ∗ levAts L lv ∗ St m ρ c n ∗ HR c h)
      ⊢ iprop((St m ρ c n' -∗ wpc c (k (mx m ρ c n')) Q)
          -∗ wpc c (hopP oM fM bM cc0_scratch4 cc0_scratch5 cc0_scratch6 cc0_scratch7 c (Wv m ρ c) h (mx m ρ c n) k) Q) := by
  subst hn hn'; exact hop m ρ K c h Q k

/-- The seven hops. -/
theorem hops (c : Dev nD) (Q : PUnit → sProp 𝕄) (k : F .f32 → CoreProg F) :
    iprop(invs m ρ K ∗ levAts L lv ∗ St m ρ c 0 ∗ bigSep Finset.univ (fun h : Fin 7 => HR (F := F) c h))
      ⊢ iprop((St m ρ c 7 -∗ wpc c (k (mx m ρ c 7)) Q)
          -∗ wpc c (
  hopP oM fM bM cc0_scratch4 cc0_scratch5 cc0_scratch6 cc0_scratch7 c (Wv m ρ c) 0 (Scalar.ofBits .f32 0x00000000#32) fun m1 =>
  hopP oM fM bM cc0_scratch4 cc0_scratch5 cc0_scratch6 cc0_scratch7 c (Wv m ρ c) 1 m1 fun m2 =>
  hopP oM fM bM cc0_scratch4 cc0_scratch5 cc0_scratch6 cc0_scratch7 c (Wv m ρ c) 2 m2 fun m3 =>
  hopP oM fM bM cc0_scratch4 cc0_scratch5 cc0_scratch6 cc0_scratch7 c (Wv m ρ c) 3 m3 fun m4 =>
  hopP oM fM bM cc0_scratch4 cc0_scratch5 cc0_scratch6 cc0_scratch7 c (Wv m ρ c) 4 m4 fun m5 =>
  hopP oM fM bM cc0_scratch4 cc0_scratch5 cc0_scratch6 cc0_scratch7 c (Wv m ρ c) 5 m5 fun m6 =>
  hopP oM fM bM cc0_scratch4 cc0_scratch5 cc0_scratch6 cc0_scratch7 c (Wv m ρ c) 6 m6 k) Q) := by
  rw [bigSep7, show (Scalar.ofBits .f32 0x00000000#32 : F .f32) = mx m ρ c 0 from rfl]
  iintro ⟨#HI, #Hlev, HS, H0, H1, H2, H3, H4, H5, H6⟩ Hk
  iapply (hop_at m ρ K c 0 0 1 rfl rfl) $$ [HS H0]
  · isplitr; · iexact HI
    isplitr; · iexact Hlev
    isplitl [HS] <;> iassumption
  iintro HS
  iapply (hop_at m ρ K c 1 1 2 rfl rfl) $$ [HS H1]
  · isplitr; · iexact HI
    isplitr; · iexact Hlev
    isplitl [HS] <;> iassumption
  iintro HS
  iapply (hop_at m ρ K c 2 2 3 rfl rfl) $$ [HS H2]
  · isplitr; · iexact HI
    isplitr; · iexact Hlev
    isplitl [HS] <;> iassumption
  iintro HS
  iapply (hop_at m ρ K c 3 3 4 rfl rfl) $$ [HS H3]
  · isplitr; · iexact HI
    isplitr; · iexact Hlev
    isplitl [HS] <;> iassumption
  iintro HS
  iapply (hop_at m ρ K c 4 4 5 rfl rfl) $$ [HS H4]
  · isplitr; · iexact HI
    isplitr; · iexact Hlev
    isplitl [HS] <;> iassumption
  iintro HS
  iapply (hop_at m ρ K c 5 5 6 rfl rfl) $$ [HS H5]
  · isplitr; · iexact HI
    isplitr; · iexact Hlev
    isplitl [HS] <;> iassumption
  iintro HS
  iapply (hop_at m ρ K c 6 6 7 rfl rfl) $$ [HS H6]
  · isplitr; · iexact HI
    isplitr; · iexact Hlev
    isplitl [HS] <;> iassumption
  iexact Hk

end Cert.KernelIdeal
-- ==== Proof.Parts.lean ====
/- The parts of the run around the hops: buffers cut and joined, the barrier's handovers, the start, the maxima and the ending. -/
module

public import proofs.«01_k».proof.Proof.Ring

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

/-! ## Buffers cut into their slots and rows -/

/-- Device `c`'s forward buffer whole, at some contents. -/
def fW (c : Dev nD) : sProp 𝕄 := iprop(∃ f, ((c : Thread nD τ).loc cc0_scratch0) ↦{fullShare} f)
/-- Its backward buffer. -/
def bW (c : Dev nD) : sProp 𝕄 := iprop(∃ f, ((c : Thread nD τ).loc cc0_scratch1) ↦{fullShare} f)
/-- Its own maximum. -/
def tW (c : Dev nD) : sProp 𝕄 := iprop(∃ f, ((c : Thread nD τ).loc cc0_scratch2) ↦{fullShare} f)
/-- Its table of maxima. -/
def rW (c : Dev nD) : sProp 𝕄 := iprop(∃ f, ((c : Thread nD τ).loc cc0_scratch3) ↦{fullShare} f)

theorem bigSep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- The indices of a slot of the forward buffer, of the backward buffer, of a row of the table. -/
def setF (s : Fin 4) : Finset S4x256x4096.Idx := (slotM fM s).view.set
def setB (s : Fin 4) : Finset S4x256x4096.Idx := (slotM bM s).view.set
def setR (d : Dev nD) : Finset S8x128.Idx := (rowM rM d).view.set
theorem setF_eq (s : Fin 4) : setF s = (slotR s).set := slot_set_f s
theorem setB_eq (s : Fin 4) : setB s = (slotR s).set := slot_set_b s

theorem slots_disj_f (s t : Fin 4) (h : s ≠ t) : Disjoint (setF s) (setF t) := by
  rw [setF_eq, setF_eq]; exact slot_disjoint h
theorem slots_disj_b (s t : Fin 4) (h : s ≠ t) : Disjoint (setB s) (setB t) := by
  rw [setB_eq, setB_eq]; exact slot_disjoint h
theorem slots_univ_f : Finset.univ.biUnion setF = Finset.univ :=
  Finset.eq_univ_iff_forall.mpr fun i => by
    obtain ⟨s, hs⟩ := slot_cover i
    exact Finset.mem_biUnion.mpr ⟨s, Finset.mem_univ _, by rw [setF_eq]; exact hs⟩
theorem slots_univ_b : Finset.univ.biUnion setB = Finset.univ :=
  Finset.eq_univ_iff_forall.mpr fun i => by
    obtain ⟨s, hs⟩ := slot_cover i
    exact Finset.mem_biUnion.mpr ⟨s, Finset.mem_univ _, by rw [setB_eq]; exact hs⟩

theorem split_f (c : Dev nD) : fW (F := F) c ⊢ iprop((∃ f, fS c 0 fullShare f) ∗ (∃ f, fS c 1 fullShare f) ∗ (∃ f, fS c 2 fullShare f) ∗ (∃ f, fS c 3 fullShare f)) := by
  unfold fW
  iintro ⟨%f, H⟩
  ihave H := (Entails.of_eq ((Ring.pointsTo_blocks setF slots_disj_f slots_univ_f f).trans (bigSep4 _))) $$ H
  icases H with ⟨H0, H1, H2, H3⟩
  unfold fS
  isplitl [H0]; · iexists f; iexact H0
  isplitl [H1]; · iexists f; iexact H1
  isplitl [H2]; · iexists f; iexact H2
  iexists f; iexact H3
theorem split_b (c : Dev nD) : bW (F := F) c ⊢ iprop((∃ f, bS c 0 fullShare f) ∗ (∃ f, bS c 1 fullShare f) ∗ (∃ f, bS c 2 fullShare f) ∗ (∃ f, bS c 3 fullShare f)) := by
  unfold bW
  iintro ⟨%f, H⟩
  ihave H := (Entails.of_eq ((Ring.pointsTo_blocks setB slots_disj_b slots_univ_b f).trans (bigSep4 _))) $$ H
  icases H with ⟨H0, H1, H2, H3⟩
  unfold bS
  isplitl [H0]; · iexists f; iexact H0
  isplitl [H1]; · iexists f; iexact H1
  isplitl [H2]; · iexists f; iexact H2
  iexists f; iexact H3
theorem join_f (c : Dev nD) : iprop((∃ f, fS c 0 fullShare f) ∗ (∃ f, fS c 1 fullShare f) ∗ (∃ f, fS c 2 fullShare f) ∗ (∃ f, fS c 3 fullShare f)) ⊢ fW (F := F) c := by
  unfold fW
  rw [← bigSep4 (F := F) (fun s => iprop(∃ f, fS c s fullShare f))]
  exact Ring.pointsTo_blocks_join_exists (ℓ := (c : Thread nD τ).loc cc0_scratch0) setF slots_disj_f slots_univ_f (fun _ => Scalar.ofBits .f32 0x00000000#32)
theorem join_b (c : Dev nD) : iprop((∃ f, bS c 0 fullShare f) ∗ (∃ f, bS c 1 fullShare f) ∗ (∃ f, bS c 2 fullShare f) ∗ (∃ f, bS c 3 fullShare f)) ⊢ bW (F := F) c := by
  unfold bW
  rw [← bigSep4 (F := F) (fun s => iprop(∃ f, bS c s fullShare f))]
  exact Ring.pointsTo_blocks_join_exists (ℓ := (c : Thread nD τ).loc cc0_scratch1) setB slots_disj_b slots_univ_b (fun _ => Scalar.ofBits .f32 0x00000000#32)

theorem tS_eq (c : Dev nD) (q : PosShare TreeShare) (f : S1x128.Idx → F .f32) : tS c q f = (((c : Thread nD τ).loc cc0_scratch2) ↦{q} f : sProp 𝕄) := by
  unfold tS; rw [tx_set]

/-- The other devices, counted forwards. -/
theorem others_fwd : ∀ c : Dev nD, Finset.univ.erase c = Finset.univ.image (fwd c) := by decide +kernel
theorem fwd_inj : ∀ (c : Dev nD) (i j : Fin 7), fwd c i = fwd c j → i = j := by decide +kernel
/-- The other devices, counted backwards. -/
theorem others_bwd : ∀ c : Dev nD, Finset.univ.erase c = Finset.univ.image (bwd c) := by decide +kernel
theorem bwd_inj : ∀ (c : Dev nD) (i j : Fin 7), bwd c i = bwd c j → i = j := by decide +kernel

theorem rows_disj (a b : Dev nD) (h : a ≠ b) : Disjoint (setR a) (setR b) := row_disjoint h
theorem rows_univ : Finset.univ.biUnion setR = Finset.univ :=
  Finset.eq_univ_iff_forall.mpr fun i => by
    obtain ⟨s, hs⟩ := row_cover i
    exact Finset.mem_biUnion.mpr ⟨s, Finset.mem_univ _, hs⟩

/-- The table of maxima is its rows. -/
theorem rows_eq (c : Dev nD) (f : S8x128.Idx → F .f32) :
    (((c : Thread nD τ).loc cc0_scratch3) ↦{fullShare} f : sProp 𝕄) = bigSep Finset.univ fun d : Dev nD => rS c d f := by
  have h := Ring.pointsTo_blocks (ℓ := (c : Thread nD τ).loc cc0_scratch3) (Ix := ℕ) (Val := Elt F) (Name := ℕ) (U := UU) (Lvl := ℕ) (q := fullShare) setR rows_disj rows_univ f
  refine h.trans (bigSep_congr fun d _ => ?_)
  unfold rS setR
  rfl
/-- Its own row and the others counted forwards. -/
theorem rows_fwd (c : Dev nD) (f : S8x128.Idx → F .f32) :
    (((c : Thread nD τ).loc cc0_scratch3) ↦{fullShare} f : sProp 𝕄) = iprop(rS c c f ∗ bigSep Finset.univ fun j : Fin 7 => rS c (fwd c j) f) := by
  rw [rows_eq, bigSep_univ_at _ c, others_fwd c, bigSep_image_of_injOn (fun i _ j _ h => fwd_inj c i j h)]
/-- Its own row and the others counted backwards. -/
theorem rows_bwd (c : Dev nD) (f : S8x128.Idx → F .f32) :
    (((c : Thread nD τ).loc cc0_scratch3) ↦{fullShare} f : sProp 𝕄) = iprop(rS c c f ∗ bigSep Finset.univ fun j : Fin 7 => rS c (bwd c j) f) := by
  rw [rows_eq, bigSep_univ_at _ c, others_bwd c, bigSep_image_of_injOn (fun i _ j _ h => bwd_inj c i j h)]

/-! ## What goes with the barrier's signals, and what comes -/

/-- How many steps by number from `c` to another device `d`, less one. -/
def dist (c d : Dev nD) : Fin 7 := ⟨(d.val + 7 - c.val) % 8 % 7, Nat.mod_lt _ (by decide)⟩
theorem nxt_fwd : ∀ (c : Dev nD) (j : Fin 7), c = nxt (fwd c j) ↔ j = dist c (prv c) := by decide +kernel
theorem prv_fwd : ∀ (c : Dev nD) (j : Fin 7), c = prv (fwd c j) ↔ j = dist c (nxt c) := by decide +kernel
theorem bwd_nxt : ∀ (c : Dev nD) (j : Fin 7), bwd c j = nxt c ↔ j = dist (nxt c) c := by decide +kernel
theorem bwd_prv : ∀ (c : Dev nD) (j : Fin 7), bwd c j = prv c ↔ j = dist (prv c) c := by decide +kernel

/-- What device `c` puts with its `j`-th signal. -/
theorem barPay_give (c : Dev nD) (j : Fin 7) :
    barPay (F := F) (fwd c j) j = iprop((∃ f, rS c (fwd c j) f) ∗ (if j = dist c (prv c) then iprop(∃ f, fS c 1 fullShare f) else iprop(emp))
      ∗ (if j = dist c (nxt c) then iprop(∃ f, bS c 1 fullShare f) else iprop(emp))) := by
  unfold barPay
  rw [bwd_fwd]
  congr 1
  congr 1
  · by_cases h : j = dist c (prv c)
    · have e := (nxt_fwd c j).mpr h
      rw [if_pos e, if_pos h, show nxt (fwd c j) = c from e.symm]
    · rw [if_neg (fun h' => h ((nxt_fwd c j).mp h')), if_neg h]
  · by_cases h : j = dist c (nxt c)
    · have e := (prv_fwd c j).mpr h
      rw [if_pos e, if_pos h, show prv (fwd c j) = c from e.symm]
    · rw [if_neg (fun h' => h ((prv_fwd c j).mp h')), if_neg h]
/-- What device `c` gets with the `j`-th signal to it. -/
theorem barPay_take (c : Dev nD) (j : Fin 7) :
    barPay (F := F) c j = iprop((∃ f, rS (bwd c j) c f) ∗ (if j = dist (nxt c) c then iprop(∃ f, fS (nxt c) 1 fullShare f) else iprop(emp))
      ∗ (if j = dist (prv c) c then iprop(∃ f, bS (prv c) 1 fullShare f) else iprop(emp))) := by
  unfold barPay
  simp only [bwd_nxt, bwd_prv]

/-- A family of seven that holds something at one index only. -/
theorem bigSep_one (i : Fin 7) (P : sProp 𝕄) : (bigSep Finset.univ fun j : Fin 7 => if j = i then P else iprop(emp)) = P := by
  rw [bigSep_univ_at _ i, if_pos rfl, bigSep_congr (Ψ := fun _ => iprop(emp)) fun j hj => if_neg (Finset.ne_of_mem_erase hj)]
  exact (congrArg (fun R => iprop(P ∗ R)) (bigSep_emp_const _)).trans (sep_emp_eq P)

theorem bar_give (c : Dev nD) : iprop(rW (F := F) c ∗ (∃ f, fS c 1 fullShare f) ∗ (∃ f, bS c 1 fullShare f))
    ⊢ iprop((∃ f, rS c c f) ∗ bigSep Finset.univ fun j : Fin 7 => barPay (fwd c j) j) := by
  simp only [barPay_give]
  rw [bigSep_sep', bigSep_sep', bigSep_one, bigSep_one]
  unfold rW
  iintro ⟨⟨%f, H⟩, Hf, Hb⟩
  ihave H := (Entails.of_eq (rows_fwd c f)) $$ H
  icases H with ⟨H0, H⟩
  isplitl [H0]; · iexists f; iexact H0
  isplitl [H]
  · have e : ∀ j : Fin 7, rS c (fwd c j) f ⊢ iprop(∃ f, rS (F := F) c (fwd c j) f) := fun j => by iintro H; iexists f; iexact H
    have e' : (bigSep Finset.univ fun j : Fin 7 => rS c (fwd c j) f) ⊢ iprop(bigSep Finset.univ fun j : Fin 7 => iprop(∃ f, rS (F := F) c (fwd c j) f)) := bigSep_mono fun j _ => e j
    iapply e'; iexact H
  isplitl [Hf] <;> iassumption

theorem bar_take (c : Dev nD) : (bigSep Finset.univ fun j : Fin 7 => barPay (F := F) c j)
    ⊢ iprop((bigSep Finset.univ fun j : Fin 7 => iprop(∃ f, rS (fwd c j) c f)) ∗ (∃ f, fS (nxt c) 1 fullShare f) ∗ (∃ f, bS (prv c) 1 fullShare f)) := by
  simp only [barPay_take]
  rw [bigSep_sep', bigSep_sep', bigSep_one, bigSep_one,
    bigSep_univ_equiv Fin.revPerm (fun j : Fin 7 => iprop(∃ f, rS (F := F) (bwd c j) c f))]
  simp only [Fin.revPerm_apply, bwd_rev]
  exact BI.Entails.refl _

/-! ## The start -/

/-- Device `c`'s rows of `x`. -/
def xS (c : Dev nD) : sProp 𝕄 := xM.view.loc (c : Thread nD τ) ↦[Finset.univ]{fullShare} xstg m ρ c
/-- Device `c`'s columns of the weights. -/
def wS (c : Dev nD) : sProp 𝕄 := wM.view.loc (c : Thread nD τ) ↦[Finset.univ]{fullShare} wstg m ρ c

theorem w_load (f : (cc0_stg1_0 : Ref sig .tc).ty.Contents (Elt F)) :
    wM.view.readAt (Elt F) (Rect.unit (s := S4096x256) ![0, 0] S4096x256.size inb_S4096x256_S4096x256_0_0).toLoadRect f = f :=
  Memref.readAt_unit_zero (Elt F) cc0_stg1_0 (funext fun a => by fin_cases a <;> rfl) _ f

theorem slot_sub_f' (s : Fin 4) : (fM.access (slotR s)).setOn Finset.univ ⊆ (slotM fM s).view.set := by
  rw [View.setOn_univ, slot_set_f]; exact (View.set_slice_whole _ _).le
theorem slot_sub_b' (s : Fin 4) : (bM.access (slotR s)).setOn Finset.univ ⊆ (slotM bM s).view.set := by
  rw [View.setOn_univ, slot_set_b]; exact (View.set_slice_whole _ _).le

/-- Both halves of the device's own rows into slot 0, and the weights read. -/
theorem step_init (c : Dev nD) (Q : PUnit → sProp 𝕄) (k : FVec F S4096x256 .f32 → CoreProg F) :
    iprop(xS m ρ c ∗ wS m ρ c ∗ (∃ f, fS c 0 fullShare f) ∗ (∃ f, bS c 0 fullShare f))
      ⊢ iprop(((xS m ρ c ∗ wS m ρ c ∗ fS c 0 fullShare (slotBuf (topV m ρ c)) ∗ bS c 0 fullShare (slotBuf (botV m ρ c))) -∗ wpc c (k (Wv m ρ c)) Q)
          -∗ wpc c (initP xM wM fM bM k) Q) := by
  unfold initP xS wS fS bS
  iintro ⟨Hx, Hw, ⟨%f, Hf⟩, ⟨%g, Hb⟩⟩ Hk
  iapply (wp_load 𝒱₀ (c : Thread nD τ) none Set.univ (m := xM) (Finset.subset_univ _)) $$ Hx; iintro Hx
  iapply (wp_load 𝒱₀ (c : Thread nD τ) none Set.univ (m := fM) (slot_sub_f 0)) $$ Hf; iintro Hf
  iapply (wp_store 𝒱₀ (c : Thread nD τ) none Set.univ (m := fM) (r := slotR 0) (Mk := Finset.univ) (slot_sub_f' 0)) $$ Hf; iintro Hf
  iapply (wp_load 𝒱₀ (c : Thread nD τ) none Set.univ (m := xM) (Finset.subset_univ _)) $$ Hx; iintro Hx
  iapply (wp_load 𝒱₀ (c : Thread nD τ) none Set.univ (m := bM) (slot_sub_b 0)) $$ Hb; iintro Hb
  iapply (wp_store 𝒱₀ (c : Thread nD τ) none Set.univ (m := bM) (r := slotR 0) (Mk := Finset.univ) (slot_sub_b' 0)) $$ Hb; iintro Hb
  iapply (wp_load 𝒱₀ (c : Thread nD τ) none Set.univ (m := wM) (Finset.subset_univ _)) $$ Hw; iintro Hw
  rw [w_load]
  iapply Hk
  isplitl [Hx]; · iexact Hx
  isplitl [Hw]; · iexact Hw
  isplitl [Hf]
  · iapply (Entails.of_eq (pointsTo_congr fun i hi => slot_store_f 0 f (topV m ρ c) i (by rw [← slot_set_f]; exact hi))); iexact Hf
  iapply (Entails.of_eq (pointsTo_congr fun i hi => slot_store_b 0 g (botV m ρ c) i (by rw [← slot_set_b]; exact hi))); iexact Hb

/-! ## After the hops -/

theorem tx_store (f : S1x128.Idx → F .f32) (V : Vec F S1x128 .f32) : (tM.access txR).write (Elt F) f V Finset.univ = V :=
  Memref.write_access_unit_zero_univ (Elt F) cc0_scratch2 (funext fun a => by fin_cases a <;> rfl) _ f V

theorem row_sub (c : Dev nD) : rM.view.setOn (rowR c).toLoadRect.set ⊆ (rowM rM c).view.set := by
  rw [← row_set]; intro i hi
  obtain ⟨j, hj, rfl⟩ := Finset.mem_map.mp hi
  rw [View.set_slice_whole]
  exact hj
theorem row_sub' (c : Dev nD) : (rM.access (rowR c)).setOn Finset.univ ⊆ (rowM rM c).view.set := by
  rw [View.setOn_univ, row_set]

/-- The last two products, the device's own maximum and its row of the table. -/
theorem step_last (c : Dev nD) (g : S4096x256.Idx → F .f32) (hg : Good m ρ c 7 g) (Q : PUnit → sProp 𝕄) (k : CoreProg F) :
    iprop(fS c 3 fullShare (slotBuf (topV m ρ (orgF 7 c))) ∗ bS c 3 fullShare (slotBuf (botV m ρ (orgB 7 c))) ∗ oS c g ∗ tW c ∗ (∃ f, rS c c f))
      ⊢ iprop(((fS c 3 fullShare (slotBuf (topV m ρ (orgF 7 c))) ∗ bS c 3 fullShare (slotBuf (botV m ρ (orgB 7 c))) ∗ oS c (Yv m ρ c)
          ∗ tS c fullShare (txV m ρ c) ∗ rS c c (rxV m ρ)) -∗ wpc c k Q)
          -∗ wpc c (lastP oM fM bM tM rM c (Wv m ρ c) (mx m ρ c 7) k) Q) := by
  unfold lastP tW
  iintro ⟨Hf, Hb, Ho, ⟨%t, Ht⟩, ⟨%r, Hr⟩⟩ Hk
  iapply (step_gemmF c 3 fullShare (topV m ρ (orgF 7 c)) (Wv m ρ c) (tb (orgF 7 c)) (offF7 c) (k0_off2_inb c 7) g) $$ [Hf Ho]
  · isplitl [Hf] <;> iassumption
  iintro ⟨Hf, %g₁, %hg₁, Ho⟩
  iapply (step_gemmB c 3 fullShare (botV m ρ (orgB 7 c)) (Wv m ρ c) (bb (orgB 7 c)) (offB7 c) (k0_off1_inb c 7) g₁) $$ [Hb Ho]
  · isplitl [Hb] <;> iassumption
  iintro ⟨Hb, %g₂, %hg₂, Ho⟩
  have e : g₂ = Yv m ρ c := good_all m ρ c g₂ (good_step m ρ c 7 g g₁ g₂ hg hg₁ hg₂)
  subst e
  iapply (wp_load 𝒱₀ (c : Thread nD τ) none Set.univ (m := tM) (Finset.subset_univ _)) $$ Ht; iintro Ht
  iapply (wp_store 𝒱₀ (c : Thread nD τ) none Set.univ (m := tM) (r := txR) (Mk := Finset.univ) (Finset.subset_univ _)) $$ Ht; iintro Ht
  rw [tx_store]
  iapply (wp_load 𝒱₀ (c : Thread nD τ) none Set.univ (m := tM) (Finset.subset_univ _)) $$ Ht; iintro Ht
  rw [tx_load]
  unfold rS
  iapply (wp_load 𝒱₀ (c : Thread nD τ) none Set.univ (m := rM) (row_sub c)) $$ Hr; iintro Hr
  iapply (wp_store 𝒱₀ (c : Thread nD τ) none Set.univ (m := rM) (r := rowR c) (Mk := Finset.univ) (row_sub' c)) $$ Hr; iintro Hr
  iapply Hk
  isplitl [Hf]; · iexact Hf
  isplitl [Hb]; · iexact Hb
  isplitl [Ho]; · iexact Ho
  isplitl [Ht]; · rw [tS_eq]; iexact Ht
  iapply (Entails.of_eq (pointsTo_congr (row_store m ρ c r))); iexact Hr

theorem rx_load (f : S8x128.Idx → F .f32) : rM.view.readAt (Elt F) rxR.toLoadRect f = f :=
  Memref.readAt_unit_zero (Elt F) cc0_scratch3 (funext fun a => by fin_cases a <;> rfl) _ f
theorem out_load (f : S4096x256.Idx → F .f32) : oM.view.readAt (Elt F) outR.toLoadRect f = f :=
  Memref.readAt_unit_zero (Elt F) cc0_stg2_0 (funext fun a => by fin_cases a <;> rfl) _ f
theorem out_store (f V : S4096x256.Idx → F .f32) : (oM.access outR).write (Elt F) f V Finset.univ = V :=
  Memref.write_access_unit_zero_univ (Elt F) cc0_stg2_0 (funext fun a => by fin_cases a <;> rfl) _ f V

/-- The ending: the result rounded to the common scale. -/
theorem step_fin (c : Dev nD) (Q : PUnit → sProp 𝕄) :
    iprop((((c : Thread nD τ).loc cc0_scratch3) ↦{fullShare} rxV m ρ) ∗ oS c (Yv m ρ c))
      ⊢ iprop(((rW c ∗ oS c (outV m ρ c)) -∗ |={Set.univ}=> Q ⟨⟩) -∗ wpc c (finP oM rM) Q) := by
  unfold finP oS rW
  iintro ⟨Hr, Ho⟩ Hk
  iapply (wp_load 𝒱₀ (c : Thread nD τ) none Set.univ (m := rM) (Finset.subset_univ _)) $$ Hr; iintro Hr
  rw [rx_load]
  iapply (wp_load 𝒱₀ (c : Thread nD τ) none Set.univ (m := oM) (Finset.subset_univ _)) $$ Ho; iintro Ho
  rw [out_load]
  iapply (wp_load 𝒱₀ (c : Thread nD τ) none Set.univ (m := oM) (Finset.subset_univ _)) $$ Ho; iintro Ho
  iapply (wp_store 𝒱₀ (c : Thread nD τ) none Set.univ (m := oM) (r := outR) (Mk := Finset.univ) (Finset.subset_univ _)) $$ Ho; iintro Ho
  rw [out_store]
  rw [wp_ret]
  iapply Hk
  isplitl [Hr]; · iexists _; iexact Hr
  iexact Ho

/-! ## The maxima exchanged -/

theorem pay_3 (c : Dev nD) (j : Fin 7) : pay (F := F) m ρ c (3, j) = rS c (bwd c j) (rxV m ρ) := rfl
theorem pay_6 (c : Dev nD) (j : Fin 7) : pay (F := F) m ρ c (6, j) = tS c (shareTok fullShare 7 j) (txV m ρ c) := rfl
theorem rnd_3 (j : Fin 7) : rnd (3, j) = 0 := rfl
theorem rnd_6 (j : Fin 7) : rnd (6, j) = 0 := rfl

/-- What the `j`-th send of the maximum needs. -/
def AS (c : Dev nD) (j : Fin 7) : sProp 𝕄 :=
  iprop(tS c (shareTok fullShare 7 j) (txV m ρ c) ∗ (∃ f, rS (fwd c j) c f) ∗ dutyTok ER (cel c (6, j)) 0 (6, j) ∗ dutyTok ER (cel (fwd c j) (3, j)) 0 (3, j))
/-- What the `j`-th pair of waits needs, the send's own credit aside. -/
def AW (c : Dev nD) (j : Fin 7) : sProp 𝕄 :=
  iprop(cred (tallyAt (cel c (3, j)) (iot (3, j)) (amt (3, j))) ∗ atPos ER (cel c (6, j)) 0 ∅ 0 ∗ atPos ER (cel c (3, j)) 0 ∅ 0)
/-- What they leave. -/
def AD (c : Dev nD) (j : Fin 7) : sProp 𝕄 :=
  iprop(tS c (shareTok fullShare 7 j) (txV m ρ c) ∗ rS c (bwd c j) (rxV m ρ) ∗ atPos ER (cel c (6, j)) 1 ∅ 0 ∗ atPos ER (cel c (3, j)) 1 ∅ 0)
/-- The credit of the `j`-th send. -/
def AC (c : Dev nD) (j : Fin 7) : sProp 𝕄 := cred (tallyAt (cel c (6, j)) (iot (6, j)) (amt (6, j)))

theorem step_as (c : Dev nD) (j : Fin 7) (n n' : ℕ) (hn : n = 21 + j.val) (hn' : n' = n + 1) (Q : PUnit → sProp 𝕄) (k : CoreProg F) :
    iprop(invs m ρ K ∗ AS m ρ c j ∗ Ow c n)
      ⊢ iprop(((AC c j ∗ Ow c n') -∗ wpc c k Q) -∗ wpc c (sendA tM rM cc0_scratch8 cc0_scratch9 c j k) Q) := by
  subst hn hn'
  unfold AS AC
  iintro ⟨#HI, ⟨Ht, ⟨%f, Hr⟩, H6, H3⟩, HO⟩ Hk
  iapply (step_sendA m ρ K c j f) $$ [Ht Hr H6 H3 HO]
  · isplitr; · iexact HI
    isplitl [Ht]; · iexact Ht
    isplitl [Hr]; · iexact Hr
    isplitl [HO]; · iexact HO
    isplitl [H6] <;> iassumption
  iexact Hk

theorem step_aw (c : Dev nD) (j : Fin 7) (Q : PUnit → sProp 𝕄) (k : CoreProg F) :
    iprop(invs m ρ K ∗ levAts L lv ∗ AC c j ∗ AW c j ∗ Ow c 28)
      ⊢ iprop(((AD m ρ c j ∗ Ow c 28) -∗ wpc c k Q) -∗ wpc c (waitA tM rM cc0_scratch8 cc0_scratch9 c j k) Q) := by
  unfold waitA AC AW AD
  iintro ⟨#HI, #Hlev, Hc6, ⟨Hc3, Hp6, Hp3⟩, HO⟩ Hk
  iapply (step_wait m ρ K c (6, j) (by revert j; decide) 28 (iot_end _) (congrArg SemLoc.dma (sem8_sa j).symm)
    ((show (txM tM).view.dmaCredit = Na from rfl).trans (amt_row 6 j (.inr rfl)).symm)) $$ [HO Hc6 Hp6]
  · isplitr; · iexact HI
    isplitr; · iexact Hlev
    isplitl [HO]; · iexact HO
    isplitl [Hc6]; · iexact Hc6
    rw [rnd_6]; iexact Hp6
  rw [pay_6, rnd_6]
  iintro ⟨HO, Hp6, -, Hy6⟩
  iapply (step_wait m ρ K c (3, j) (by revert j; decide) 28 (iot_end _) (congrArg SemLoc.dma (sem8_ra j).symm)
    ((credit_r c).trans (amt_row 3 j (.inl rfl)).symm)) $$ [HO Hc3 Hp3]
  · isplitr; · iexact HI
    isplitr; · iexact Hlev
    isplitl [HO]; · iexact HO
    isplitl [Hc3]; · iexact Hc3
    rw [rnd_3]; iexact Hp3
  rw [pay_3, rnd_3]
  iintro ⟨HO, Hp3, -, Hy3⟩
  iapply Hk
  isplitr [HO]
  · isplitl [Hy6]; · iexact Hy6
    isplitl [Hy3]; · iexact Hy3
    isplitl [Hp6] <;> iassumption
  iexact HO

/-- All seven sends and all seven pairs of waits. -/
theorem step_maxima (c : Dev nD) (Q : PUnit → sProp 𝕄) (k : CoreProg F) :
    iprop(invs m ρ K ∗ levAts L lv ∗ Ow c 21 ∗ bigSep Finset.univ (fun j : Fin 7 => AS m ρ c j) ∗ bigSep Finset.univ (fun j : Fin 7 => AW (F := F) c j))
      ⊢ iprop(((Ow c 28 ∗ bigSep Finset.univ (fun j : Fin 7 => AD m ρ c j)) -∗ wpc c k Q) -∗ wpc c (
  sendA tM rM cc0_scratch8 cc0_scratch9 c 0 <| sendA tM rM cc0_scratch8 cc0_scratch9 c 1 <| sendA tM rM cc0_scratch8 cc0_scratch9 c 2 <|
  sendA tM rM cc0_scratch8 cc0_scratch9 c 3 <| sendA tM rM cc0_scratch8 cc0_scratch9 c 4 <| sendA tM rM cc0_scratch8 cc0_scratch9 c 5 <|
  sendA tM rM cc0_scratch8 cc0_scratch9 c 6 <|
  waitA tM rM cc0_scratch8 cc0_scratch9 c 0 <| waitA tM rM cc0_scratch8 cc0_scratch9 c 1 <| waitA tM rM cc0_scratch8 cc0_scratch9 c 2 <|
  waitA tM rM cc0_scratch8 cc0_scratch9 c 3 <| waitA tM rM cc0_scratch8 cc0_scratch9 c 4 <| waitA tM rM cc0_scratch8 cc0_scratch9 c 5 <|
  waitA tM rM cc0_scratch8 cc0_scratch9 c 6 k) Q) := by
  rw [bigSep7, bigSep7, bigSep7]
  iintro ⟨#HI, #Hlev, HO, ⟨H0, H1, H2, H3, H4, H5, H6⟩, G0, G1, G2, G3, G4, G5, G6⟩ Hk
  iapply (step_as m ρ K c 0 21 22 rfl rfl) $$ [H0 HO]
  · isplitr; · iexact HI
    isplitl [H0] <;> iassumption
  iintro ⟨C0, HO⟩
  iapply (step_as m ρ K c 1 22 23 rfl rfl) $$ [H1 HO]
  · isplitr; · iexact HI
    isplitl [H1] <;> iassumption
  iintro ⟨C1, HO⟩
  iapply (step_as m ρ K c 2 23 24 rfl rfl) $$ [H2 HO]
  · isplitr; · iexact HI
    isplitl [H2] <;> iassumption
  iintro ⟨C2, HO⟩
  iapply (step_as m ρ K c 3 24 25 rfl rfl) $$ [H3 HO]
  · isplitr; · iexact HI
    isplitl [H3] <;> iassumption
  iintro ⟨C3, HO⟩
  iapply (step_as m ρ K c 4 25 26 rfl rfl) $$ [H4 HO]
  · isplitr; · iexact HI
    isplitl [H4] <;> iassumption
  iintro ⟨C4, HO⟩
  iapply (step_as m ρ K c 5 26 27 rfl rfl) $$ [H5 HO]
  · isplitr; · iexact HI
    isplitl [H5] <;> iassumption
  iintro ⟨C5, HO⟩
  iapply (step_as m ρ K c 6 27 28 rfl rfl) $$ [H6 HO]
  · isplitr; · iexact HI
    isplitl [H6] <;> iassumption
  iintro ⟨C6, HO⟩
  iapply (step_aw m ρ K c 0) $$ [C0 G0 HO]
  · isplitr; · iexact HI
    isplitr; · iexact Hlev
    isplitl [C0]; · iexact C0
    isplitl [G0] <;> iassumption
  iintro ⟨D0, HO⟩
  iapply (step_aw m ρ K c 1) $$ [C1 G1 HO]
  · isplitr; · iexact HI
    isplitr; · iexact Hlev
    isplitl [C1]; · iexact C1
    isplitl [G1] <;> iassumption
  iintro ⟨D1, HO⟩
  iapply (step_aw m ρ K c 2) $$ [C2 G2 HO]
  · isplitr; · iexact HI
    isplitr; · iexact Hlev
    isplitl [C2]; · iexact C2
    isplitl [G2] <;> iassumption
  iintro ⟨D2, HO⟩
  iapply (step_aw m ρ K c 3) $$ [C3 G3 HO]
  · isplitr; · iexact HI
    isplitr; · iexact Hlev
    isplitl [C3]; · iexact C3
    isplitl [G3] <;> iassumption
  iintro ⟨D3, HO⟩
  iapply (step_aw m ρ K c 4) $$ [C4 G4 HO]
  · isplitr; · iexact HI
    isplitr; · iexact Hlev
    isplitl [C4]; · iexact C4
    isplitl [G4] <;> iassumption
  iintro ⟨D4, HO⟩
  iapply (step_aw m ρ K c 5) $$ [C5 G5 HO]
  · isplitr; · iexact HI
    isplitr; · iexact Hlev
    isplitl [C5]; · iexact C5
    isplitl [G5] <;> iassumption
  iintro ⟨D5, HO⟩
  iapply (step_aw m ρ K c 6) $$ [C6 G6 HO]
  · isplitr; · iexact HI
    isplitr; · iexact Hlev
    isplitl [C6]; · iexact C6
    isplitl [G6] <;> iassumption
  iintro ⟨D6, HO⟩
  iapply Hk
  isplitl [HO]; · iexact HO
  isplitl [D0]; · iexact D0
  isplitl [D1]; · iexact D1
  isplitl [D2]; · iexact D2
  isplitl [D3]; · iexact D3
  isplitl [D4]; · iexact D4
  isplitl [D5]; · iexact D5
  iexact D6

end Cert.KernelIdeal
-- ==== Proof.Pos.lean ====
/- A device's positions on its semaphores from the start to the end, the rights it starts with, and the barrier. -/
module

public import proofs.«01_k».proof.Proof.Parts

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

/-! ## A device's thirty-three positions -/

/-- The place of the `j`-th maximum's send semaphore. -/
def saI (j : Fin 7) : Fin 33 := ⟨18 + j.val, by omega⟩
/-- The place of the `j`-th maximum's landing semaphore. -/
def raI (j : Fin 7) : Fin 33 := ⟨26 + j.val, by omega⟩
/-- The place of the semaphore kind `k` of hop number `n` waits on. -/
def hopI (k : Fin 4) (n : ℕ) : Fin 33 := match k with
  | 0 => ⟨1 + n % 4, by omega⟩ | 1 => ⟨5 + (n + 1) % 4, by omega⟩ | 2 => ⟨9 + n % 4, by omega⟩ | 3 => ⟨13 + (n + 1) % 4, by omega⟩

theorem sep_flat (P Q R : sProp 𝕄) : iprop((P ∗ Q) ∗ R) = iprop(P ∗ Q ∗ R) := equiv_iff.mp ⟨BI.sep_assoc, BI.sep_assoc'⟩
theorem bigSep33 (Φ : Fin 33 → sProp 𝕄) : bigSep Finset.univ Φ = iprop(Φ 0 ∗ (Φ 1 ∗ Φ 6 ∗ Φ 9 ∗ Φ 14) ∗ (Φ 2 ∗ Φ 7 ∗ Φ 10 ∗ Φ 15) ∗ (Φ 3 ∗ Φ 8 ∗ Φ 11 ∗ Φ 16) ∗ (Φ 4 ∗ Φ 5 ∗ Φ 12 ∗ Φ 13) ∗ (bigSep Finset.univ fun j : Fin 7 => Φ (saI j)) ∗ (bigSep Finset.univ fun j : Fin 7 => Φ (raI j)) ∗ Φ 17 ∗ Φ 25) := by
  rw [bigSep_univ_eq_bigSepL [0, 1, 6, 9, 14, 2, 7, 10, 15, 3, 8, 11, 16, 4, 5, 12, 13, 18, 19, 20, 21, 22, 23, 24, 26, 27, 28, 29, 30, 31, 32, 17, 25] (by decide) (by decide), bigSep7, bigSep7]
  simp only [bigSepL_cons_cons, bigSepL_singleton, sep_flat]
  rfl

theorem osem_hop (k : Fin 4) (n : ℕ) : osem (hopI k n) = semN k n := by
  have h : ∀ (k : Fin 4) (s : Fin 4), osem (hopI k s.val) = semN k s.val := by decide +kernel
  have e := h k (sl n)
  have e1 : hopI k (sl n).val = hopI k n := by
    have a : n % 4 % 4 = n % 4 := Nat.mod_mod n 4
    have b : (n % 4 + 1) % 4 = (n + 1) % 4 := by omega
    fin_cases k <;> refine Fin.ext ?_ <;> simp only [hopI] <;> omega
  have e2 : semN k (sl n).val = semN k n := by
    have a : sl (n % 4) = sl n := Fin.ext (Nat.mod_mod n 4)
    have b : sl (n % 4 + 1) = sl (n + 1) := Fin.ext (show (n % 4 + 1) % 4 = (n + 1) % 4 by omega)
    fin_cases k
    · exact congrArg (fun s => SemLoc.dma (sfQ s)) a
    · exact congrArg (fun s => SemLoc.dma (rfQ s)) b
    · exact congrArg (fun s => SemLoc.dma (sbQ s)) a
    · exact congrArg (fun s => SemLoc.dma (rbQ s)) b
  rw [← e1, e, e2]

/-- Device `c`'s position in round `r` of its `k`-th semaphore. -/
def posK (c : Dev nD) (r : ℕ) (k : Fin 33) : sProp 𝕄 := atPos ER (kcell (c, k)) r ∅ 0
theorem posK_hop (c : Dev nD) (k : Fin 4) (n : ℕ) : posK (F := F) c (n / 4) (hopI k n) = posN c k n := by
  unfold posK posN kcell; rw [osem_hop]
theorem posK_cix (c : Dev nD) (u : Du) (r : ℕ) : posK (F := F) c r (cix u) = atPos ER (cel c u) r ∅ 0 := by
  unfold posK kcell cel; rw [osem_cix]
theorem posK_4 (c : Dev nD) (n : ℕ) :
    P4 (F := F) c n = iprop(posK c (n / 4) (hopI 0 n) ∗ posK c (n / 4) (hopI 1 n) ∗ posK c (n / 4) (hopI 2 n) ∗ posK c (n / 4) (hopI 3 n)) := by
  rw [posK_hop, posK_hop, posK_hop, posK_hop]; rfl
theorem posK_sa (c : Dev nD) (r : ℕ) : (bigSep Finset.univ fun j : Fin 7 => posK (F := F) c r (saI j)) = bigSep Finset.univ fun j : Fin 7 => atPos ER (cel c (6, j)) r ∅ 0 :=
  bigSep_congr fun j _ => posK_cix c (6, j) r
theorem posK_ra (c : Dev nD) (r : ℕ) : (bigSep Finset.univ fun j : Fin 7 => posK (F := F) c r (raI j)) = bigSep Finset.univ fun j : Fin 7 => atPos ER (cel c (3, j)) r ∅ 0 :=
  bigSep_congr fun j _ => posK_cix c (3, j) r
theorem posK_0 (c : Dev nD) (r : ℕ) : posK (F := F) c r 0 = atPos ER ((c : Thread nD τ), .reg barS) r ∅ 0 := posK_cix c (0, 0) r

/-- All positions at the start. -/
theorem pos_start (c : Dev nD) : (bigSep Finset.univ fun k : Fin 33 => posK (F := F) c 0 k)
    = iprop(atPos ER ((c : Thread nD τ), .reg barS) 0 ∅ 0 ∗ P4 c 0 ∗ P4 c 1 ∗ P4 c 2 ∗ P4 c 3
      ∗ (bigSep Finset.univ fun j : Fin 7 => atPos ER (cel c (6, j)) 0 ∅ 0) ∗ (bigSep Finset.univ fun j : Fin 7 => atPos ER (cel c (3, j)) 0 ∅ 0)
      ∗ posK c 0 17 ∗ posK c 0 25) := by
  rw [bigSep33, posK_0, posK_sa, posK_ra, posK_4, posK_4, posK_4, posK_4]; rfl

/-- The round every position is in at the end. -/
def Rend (k : Fin 33) : ℕ := if k.val = 4 ∨ k.val = 5 ∨ k.val = 12 ∨ k.val = 13 then 1 else if k.val = 17 ∨ k.val = 25 then 0
  else if k.val = 0 ∨ 17 < k.val then 1 else 2
theorem Rend_sa (j : Fin 7) : Rend (saI j) = 1 := by revert j; decide +kernel
theorem Rend_ra (j : Fin 7) : Rend (raI j) = 1 := by revert j; decide +kernel

/-- All positions at the end. -/
theorem pos_end (c : Dev nD) : (bigSep Finset.univ fun k : Fin 33 => posK (F := F) c (Rend k) k)
    = iprop(atPos ER ((c : Thread nD τ), .reg barS) 1 ∅ 0 ∗ P4 c 8 ∗ P4 c 9 ∗ P4 c 10 ∗ P4 c 7
      ∗ (bigSep Finset.univ fun j : Fin 7 => atPos ER (cel c (6, j)) 1 ∅ 0) ∗ (bigSep Finset.univ fun j : Fin 7 => atPos ER (cel c (3, j)) 1 ∅ 0)
      ∗ posK c 0 17 ∗ posK c 0 25) := by
  rw [bigSep33]
  simp only [Rend_sa, Rend_ra]
  rw [posK_sa, posK_ra, posK_4, posK_4, posK_4, posK_4, ← posK_0]; rfl

set_option maxRecDepth 20000 in
theorem rnd_end : ∀ (k : Fin 33) (u : Du), semOf u = osem k → rnd u < Rend k := by decide +kernel

/-- A position past its last payment closes its cell. -/
theorem close_one (c : Dev nD) (k : Fin 33) :
    iprop(invs m ρ K ∗ posK c (Rend k) k) ⊢ iprop(|={Set.univ}=> semVal (kcell (c, k)) 0) := by
  unfold posK
  iintro ⟨HI, Hat⟩
  ihave H := (invs_at m ρ K (c, k)) $$ HI
  icases H with ⟨#HI, -⟩
  iapply (Rounds.cell_close ER (Rd m ρ) (Set.mem_univ (K (c, k))) (fun h => h) (R := Rend k) (duties_later m ρ c (osem k) (Rend k) (rnd_end k)))
  isplitr; · iexact HI
  iexact Hat

/-- All cells close. -/
theorem close_all (c : Dev nD) :
    iprop(invs m ρ K ∗ bigSep Finset.univ fun k : Fin 33 => posK c (Rend k) k) ⊢ iprop(|={Set.univ}=> bigSep Finset.univ fun k : Fin 33 => semVal (kcell (c, k)) 0) :=
  ((sep_mono_left (BI.bigSep_of_persistent Finset.univ (invs m ρ K))).trans
    (by rw [← bigSep_sep']; exact bigSep_mono fun k _ => close_one m ρ K c k)).trans (bigSep_fupd _ _)

/-! ## What a device is given at the start -/

/-- The right to make each of its payments. -/
def myToks (c : Dev nD) : sProp 𝕄 := bigSep Finset.univ fun u : Du => dutyTok ER (cel (goes u c) u) (rnd u) u
/-- The credit of everything it is owed by others. -/
def myCreds (c : Dev nD) : sProp 𝕄 :=
  iprop(cred (tallyAt ((c : Thread nD τ), .reg barS) 1 7)
    ∗ (bigSep Finset.univ fun h : Fin 7 => cred (tallyAt (cel c (1, h)) (iot (1, h)) (amt (1, h))))
    ∗ (bigSep Finset.univ fun h : Fin 7 => cred (tallyAt (cel c (2, h)) (iot (2, h)) (amt (2, h))))
    ∗ (bigSep Finset.univ fun j : Fin 7 => cred (tallyAt (cel c (3, j)) (iot (3, j)) (amt (3, j)))))

theorem myToks_eq (c : Dev nD) : myToks (F := F) c = iprop(
    (bigSep Finset.univ fun j : Fin 7 => dutyTok ER (cel (fwd c j) (0, j)) 0 (0, j))
    ∗ (bigSep Finset.univ fun h : Fin 7 => dutyTok ER (cel (nxt c) (1, h)) (rnd (1, h)) (1, h))
    ∗ (bigSep Finset.univ fun h : Fin 7 => dutyTok ER (cel (prv c) (2, h)) (rnd (2, h)) (2, h))
    ∗ (bigSep Finset.univ fun j : Fin 7 => dutyTok ER (cel (fwd c j) (3, j)) 0 (3, j))
    ∗ (bigSep Finset.univ fun h : Fin 7 => dutyTok ER (cel c (4, h)) (rnd (4, h)) (4, h))
    ∗ (bigSep Finset.univ fun h : Fin 7 => dutyTok ER (cel c (5, h)) (rnd (5, h)) (5, h))
    ∗ (bigSep Finset.univ fun j : Fin 7 => dutyTok ER (cel c (6, j)) 0 (6, j))) := by
  unfold myToks
  rw [bigSep_univ_prod, bigSep7]
  rfl

theorem HR_all (c : Dev nD) : (bigSep Finset.univ fun h : Fin 7 => HR (F := F) c h) = iprop(
    (bigSep Finset.univ fun h : Fin 7 => dutyTok ER (cel c (4, h)) (rnd (4, h)) (4, h))
    ∗ (bigSep Finset.univ fun h : Fin 7 => dutyTok ER (cel (nxt c) (1, h)) (rnd (1, h)) (1, h))
    ∗ (bigSep Finset.univ fun h : Fin 7 => dutyTok ER (cel c (5, h)) (rnd (5, h)) (5, h))
    ∗ (bigSep Finset.univ fun h : Fin 7 => dutyTok ER (cel (prv c) (2, h)) (rnd (2, h)) (2, h))
    ∗ (bigSep Finset.univ fun h : Fin 7 => cred (tallyAt (cel c (1, h)) (iot (1, h)) (amt (1, h))))
    ∗ (bigSep Finset.univ fun h : Fin 7 => cred (tallyAt (cel c (2, h)) (iot (2, h)) (amt (2, h))))) := by
  unfold HR
  rw [bigSep_sep', bigSep_sep', bigSep_sep', bigSep_sep', bigSep_sep']
theorem AS_all (c : Dev nD) : (bigSep Finset.univ fun j : Fin 7 => AS m ρ c j) = iprop(
    (bigSep Finset.univ fun j : Fin 7 => tS c (shareTok fullShare 7 j) (txV m ρ c))
    ∗ (bigSep Finset.univ fun j : Fin 7 => iprop(∃ f, rS (fwd c j) c f))
    ∗ (bigSep Finset.univ fun j : Fin 7 => dutyTok ER (cel c (6, j)) 0 (6, j))
    ∗ (bigSep Finset.univ fun j : Fin 7 => dutyTok ER (cel (fwd c j) (3, j)) 0 (3, j))) := by
  unfold AS
  rw [bigSep_sep', bigSep_sep', bigSep_sep']
theorem AW_all (c : Dev nD) : (bigSep Finset.univ fun j : Fin 7 => AW (F := F) c j) = iprop(
    (bigSep Finset.univ fun j : Fin 7 => cred (tallyAt (cel c (3, j)) (iot (3, j)) (amt (3, j))))
    ∗ (bigSep Finset.univ fun j : Fin 7 => atPos ER (cel c (6, j)) 0 ∅ 0) ∗ (bigSep Finset.univ fun j : Fin 7 => atPos ER (cel c (3, j)) 0 ∅ 0)) := by
  unfold AW
  rw [bigSep_sep', bigSep_sep']
theorem AD_all (c : Dev nD) : (bigSep Finset.univ fun j : Fin 7 => AD m ρ c j) = iprop(
    (bigSep Finset.univ fun j : Fin 7 => tS c (shareTok fullShare 7 j) (txV m ρ c))
    ∗ (bigSep Finset.univ fun j : Fin 7 => rS c (bwd c j) (rxV m ρ))
    ∗ (bigSep Finset.univ fun j : Fin 7 => atPos ER (cel c (6, j)) 1 ∅ 0) ∗ (bigSep Finset.univ fun j : Fin 7 => atPos ER (cel c (3, j)) 1 ∅ 0)) := by
  unfold AD
  rw [bigSep_sep', bigSep_sep', bigSep_sep']

/-! ## The barrier -/

/-- All seven signals and the wait. -/
theorem step_barriers (c : Dev nD) (Q : PUnit → sProp 𝕄) (k : CoreProg F) :
    iprop(invs m ρ K ∗ levAts L lv ∗ Ow c 0 ∗ (bigSep Finset.univ fun j : Fin 7 => dutyTok ER (cel (fwd c j) (0, j)) 0 (0, j))
        ∗ (bigSep Finset.univ fun j : Fin 7 => barPay (fwd c j) j) ∗ cred (tallyAt ((c : Thread nD τ), .reg barS) 1 7) ∗ atPos ER ((c : Thread nD τ), .reg barS) 0 ∅ 0)
      ⊢ iprop(((Ow c 7 ∗ atPos ER ((c : Thread nD τ), .reg barS) 1 ∅ 0 ∗ bigSep Finset.univ (fun j : Fin 7 => barPay (F := F) c j)) -∗ wpc c k Q)
          -∗ wpc c (sigP c 0 <| sigP c 1 <| sigP c 2 <| sigP c 3 <| sigP c 4 <| sigP c 5 <| sigP c 6 <| .op (.semWait barS (7#32).toInt) fun _ => k) Q) := by
  rw [bigSep7, bigSep7]
  iintro ⟨#HI, #Hlev, HO, ⟨T0, T1, T2, T3, T4, T5, T6⟩, ⟨B0, B1, B2, B3, B4, B5, B6⟩, Hc, Hp⟩ Hk
  iapply (step_signal m ρ K c 0) $$ [HO T0 B0]
  · isplitr; · iexact HI
    isplitl [HO]; · iexact HO
    isplitl [T0] <;> iassumption
  iintro HO
  iapply (step_signal m ρ K c 1) $$ [HO T1 B1]
  · isplitr; · iexact HI
    isplitl [HO]; · iexact HO
    isplitl [T1] <;> iassumption
  iintro HO
  iapply (step_signal m ρ K c 2) $$ [HO T2 B2]
  · isplitr; · iexact HI
    isplitl [HO]; · iexact HO
    isplitl [T2] <;> iassumption
  iintro HO
  iapply (step_signal m ρ K c 3) $$ [HO T3 B3]
  · isplitr; · iexact HI
    isplitl [HO]; · iexact HO
    isplitl [T3] <;> iassumption
  iintro HO
  iapply (step_signal m ρ K c 4) $$ [HO T4 B4]
  · isplitr; · iexact HI
    isplitl [HO]; · iexact HO
    isplitl [T4] <;> iassumption
  iintro HO
  iapply (step_signal m ρ K c 5) $$ [HO T5 B5]
  · isplitr; · iexact HI
    isplitl [HO]; · iexact HO
    isplitl [T5] <;> iassumption
  iintro HO
  iapply (step_signal m ρ K c 6) $$ [HO T6 B6]
  · isplitr; · iexact HI
    isplitl [HO]; · iexact HO
    isplitl [T6] <;> iassumption
  iintro HO
  iapply (step_barrier m ρ K c Q fun _ => k) $$ [HO Hc Hp]
  · isplitr; · iexact HI
    isplitr; · iexact Hlev
    isplitl [HO]; · iexact HO
    isplitl [Hc] <;> iassumption
  iexact Hk

end Cert.KernelIdeal
-- ==== Proof.Run.lean ====
/- One device's run of the whole body, from what it starts with to what it ends with. -/
module

public import proofs.«01_k».proof.Proof.Pos

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × Fin 33 → ℕ)

/-- The whole body on its buffers. -/
abbrev bodyM : CoreProg F := bodyP xM wM oM fM bM tM rM cc0_scratch4 cc0_scratch5 cc0_scratch6 cc0_scratch7 cc0_scratch8 cc0_scratch9

/-- The state before the first hop. -/
theorem St_zero (c : Dev nD) :
    iprop(invs m ρ K ∗ fS c 0 fullShare (slotBuf (topV m ρ c)) ∗ bS c 0 fullShare (slotBuf (botV m ρ c))
      ∗ (∃ f, fS c 2 fullShare f) ∗ (∃ f, bS c 2 fullShare f) ∗ (∃ f, fS c 3 fullShare f) ∗ (∃ f, bS c 3 fullShare f)
      ∗ (∃ f, fS (nxt c) 1 fullShare f) ∗ (∃ f, bS (prv c) 1 fullShare f) ∗ Ow c 7 ∗ (∃ g, oS c g) ∗ P4 c 0 ∗ P4 c 1 ∗ P4 c 2 ∗ P4 c 3)
      ⊢ St m ρ c 0 := by
  have rch : ∀ (d : Dev nD) (k : Fin 4) (s : Fin 4), invs (F := F) m ρ K ⊢ rchN d k s.val := fun d k s => by
    have z : rnd (kd k, (⟨s.val, by omega⟩ : Fin 7)) = 0 := by revert k s; decide +kernel
    have e := rch_kd (F := F) d k ⟨s.val, by omega⟩
    rw [z] at e
    exact (invs_reached m ρ K d (kd k, ⟨s.val, by omega⟩)).trans (Entails.of_eq e)
  have R : ∀ s : Fin 4, invs (F := F) m ρ K ⊢ R4 c s.val := fun s => by
    unfold R4
    iintro #HI
    isplitr; · iapply (rch c 0 s); iexact HI
    isplitr; · iapply (rch c 1 s); iexact HI
    isplitr; · iapply (rch c 2 s); iexact HI
    iapply (rch c 3 s); iexact HI
  unfold St
  rw [show tgF (F := F) c 0 = _ from if_pos (by decide), show tgB (F := F) c 0 = _ from if_pos (by decide),
    show extra (F := F) c 0 = iprop(emp) from if_neg (by decide)]
  unfold free
  iintro ⟨#HI, Hf, Hb, Hf2, Hb2, Hf3, Hb3, HF, HB, HO, ⟨%g, Hg⟩, H0, H1, H2, H3⟩
  isplitl [Hf]; · iexact Hf
  isplitl [Hb]; · iexact Hb
  isplitl [Hf2 Hb2]; · isplitl [Hf2]; · iexact Hf2
                       iexact Hb2
  isplitl [Hf3 Hb3]; · isplitl [Hf3]; · iexact Hf3
                       iexact Hb3
  isplitr; · iempintro
  isplitl [HF]
  · isplitl [HF]; · iexact HF
    iapply (rch (nxt c) 1 0); iexact HI
  isplitl [HB]
  · isplitl [HB]; · iexact HB
    iapply (rch (prv c) 3 0); iexact HI
  isplitl [HO]; · iexact HO
  isplitl [Hg]
  · iexists g; isplitr
    · ipureintro; intro h' hh; exact absurd hh (Nat.not_lt_zero _)
    iexact Hg
  isplitl [H0 H1 H2 H3]
  · isplitl [H0]; · iexact H0
    isplitl [H1]; · iexact H1
    isplitl [H2]; · iexact H2
    iexact H3
  isplitr; · iapply (R 0); iexact HI
  isplitr; · iapply (R 1); iexact HI
  isplitr; · iapply (R 2); iexact HI
  iapply (R 3); iexact HI

/-- What is left after the last hop. -/
theorem St_seven (c : Dev nD) :
    St m ρ c 7 ⊢ iprop(fS c 3 fullShare (slotBuf (topV m ρ (orgF 7 c))) ∗ bS c 3 fullShare (slotBuf (botV m ρ (orgB 7 c)))
      ∗ (∃ f, fS c 1 fullShare f) ∗ (∃ f, bS c 1 fullShare f) ∗ (∃ f, fS c 2 fullShare f) ∗ (∃ f, bS c 2 fullShare f)
      ∗ (∃ f, fS c 0 fullShare f) ∗ (∃ f, bS c 0 fullShare f) ∗ Ow c 21 ∗ (∃ g, ⌜Good m ρ c 7 g⌝ ∗ oS c g) ∗ P4 c 7 ∗ P4 c 8 ∗ P4 c 9 ∗ P4 c 10) := by
  unfold St
  rw [show extra (F := F) c 7 = free c (sl (7 + 1)) from if_pos rfl]
  unfold free
  iintro ⟨Hf, Hb, ⟨Hf1, Hb1⟩, ⟨Hf2, Hb2⟩, ⟨Hf0, Hb0⟩, -, -, HO, Hg, ⟨H0, H1, H2, H3⟩, -⟩
  isplitl [Hf]; · iexact Hf
  isplitl [Hb]; · iexact Hb
  isplitl [Hf1]; · iexact Hf1
  isplitl [Hb1]; · iexact Hb1
  isplitl [Hf2]; · iexact Hf2
  isplitl [Hb2]; · iexact Hb2
  isplitl [Hf0]; · iexact Hf0
  isplitl [Hb0]; · iexact Hb0
  isplitl [HO]; · iexact HO
  isplitl [Hg]; · iexact Hg
  isplitl [H0]; · iexact H0
  isplitl [H1]; · iexact H1
  isplitl [H2]; · iexact H2
  iexact H3

/-- Device `c`'s own maximum cut into seven shares for the sends and what stays. -/
theorem tS_cut (c : Dev nD) : tS c fullShare (txV m ρ c) ⊢ iprop(tS c (shareDrop fullShare 7) (txV m ρ c) ∗ bigSep Finset.univ fun j : Fin 7 => tS c (shareTok fullShare 7 j) (txV m ρ c)) := by
  unfold tS; exact pointsTo_toks_split fullShare 7
theorem tS_join (c : Dev nD) : iprop(tS c (shareDrop fullShare 7) (txV m ρ c) ∗ bigSep Finset.univ fun j : Fin 7 => tS c (shareTok fullShare 7 j) (txV m ρ c)) ⊢ tW (F := F) c := by
  have h : iprop(tS c (shareDrop fullShare 7) (txV m ρ c) ∗ bigSep Finset.univ fun j : Fin 7 => tS c (shareTok fullShare 7 j) (txV m ρ c)) ⊢ tS c fullShare (txV m ρ c) := by
    unfold tS; exact pointsTo_toks_join fullShare 7
  refine h.trans ?_
  rw [tS_eq]; unfold tW
  iintro H; iexists _; iexact H

/-- What a device starts with. -/
def runPre (c : Dev nD) : sProp 𝕄 :=
  iprop(Ow c 0 ∗ xS m ρ c ∗ wS m ρ c ∗ (∃ g, oS c g) ∗ fW c ∗ bW c ∗ tW c ∗ rW c ∗ (bigSep Finset.univ fun k : Fin 33 => posK c 0 k) ∗ myToks c ∗ myCreds c)
/-- What it ends with: the result in place, every debt paid, every semaphore back at zero. -/
def runPost (c : Dev nD) : sProp 𝕄 :=
  iprop(Ow c 28 ∗ xS m ρ c ∗ wS m ρ c ∗ oS c (outV m ρ c) ∗ fW c ∗ bW c ∗ tW c ∗ rW c ∗ (bigSep Finset.univ fun k : Fin 33 => semVal (kcell (c, k)) 0))

/-- One device's run of the body. -/
theorem run_body (c : Dev nD) (Q : PUnit → sProp 𝕄) :
    iprop(invs m ρ K ∗ levAts L lv ∗ runPre m ρ c) ⊢ iprop((runPost m ρ c -∗ |={Set.univ}=> Q ⟨⟩) -∗ wpc c bodyM Q) := by
  unfold runPre bodyM bodyP wpc
  rw [wp_deviceId]
  rw [pos_start, myToks_eq]
  unfold myCreds
  iintro ⟨#HI, #Hlev, HO, Hx, Hw, Ho, Hf, Hb, Ht, Hr, ⟨HpB, HP0, HP1, HP2, HP3, Hp6, Hp3, Hp17, Hp25⟩, ⟨T0, T1, T2, T3, T4, T5, T6⟩, CB, C1, C2, C3⟩ Hk
  ihave Hf := (split_f (F := F) c) $$ Hf
  icases Hf with ⟨Hf0, Hf1, Hf2, Hf3⟩
  ihave Hb := (split_b (F := F) c) $$ Hb
  icases Hb with ⟨Hb0, Hb1, Hb2, Hb3⟩
  ihave Hg := (bar_give (F := F) c) $$ [Hr Hf1 Hb1]
  · isplitl [Hr]; · iexact Hr
    isplitl [Hf1] <;> iassumption
  icases Hg with ⟨Hr0, Hg⟩
  iapply (step_barriers m ρ K c) $$ [HO T0 Hg CB HpB]
  · isplitr; · iexact HI
    isplitr; · iexact Hlev
    isplitl [HO]; · iexact HO
    isplitl [T0]; · iexact T0
    isplitl [Hg]; · iexact Hg
    isplitl [CB] <;> iassumption
  iintro ⟨HO, HpB, Hg⟩
  ihave Hg := (bar_take (F := F) c) $$ Hg
  icases Hg with ⟨Hrow, HF, HB⟩
  iapply (step_init m ρ c) $$ [Hx Hw Hf0 Hb0]
  · isplitl [Hx]; · iexact Hx
    isplitl [Hw]; · iexact Hw
    isplitl [Hf0] <;> iassumption
  iintro ⟨Hx, Hw, Hf0, Hb0⟩
  ihave HS := (St_zero m ρ K c) $$ [HO Ho Hf0 Hb0 Hf2 Hb2 Hf3 Hb3 HF HB HP0 HP1 HP2 HP3]
  · isplitr; · iexact HI
    isplitl [Hf0]; · iexact Hf0
    isplitl [Hb0]; · iexact Hb0
    isplitl [Hf2]; · iexact Hf2
    isplitl [Hb2]; · iexact Hb2
    isplitl [Hf3]; · iexact Hf3
    isplitl [Hb3]; · iexact Hb3
    isplitl [HF]; · iexact HF
    isplitl [HB]; · iexact HB
    isplitl [HO]; · iexact HO
    isplitl [Ho]; · iexact Ho
    isplitl [HP0]; · iexact HP0
    isplitl [HP1]; · iexact HP1
    isplitl [HP2] <;> iassumption
  iapply (hops m ρ K c) $$ [HS T1 T2 T4 T5 C1 C2]
  · isplitr; · iexact HI
    isplitr; · iexact Hlev
    isplitl [HS]; · iexact HS
    rw [HR_all]
    isplitl [T4]; · iexact T4
    isplitl [T1]; · iexact T1
    isplitl [T5]; · iexact T5
    isplitl [T2]; · iexact T2
    isplitl [C1] <;> iassumption
  iintro HS
  ihave HS := (St_seven m ρ c) $$ HS
  icases HS with ⟨Hf3, Hb3, Hf1, Hb1, Hf2, Hb2, Hf0, Hb0, HO, ⟨%g, %hg, Ho⟩, HP7, HP8, HP9, HP10⟩
  iapply (step_last m ρ c g hg) $$ [Hf3 Hb3 Ho Ht Hr0]
  · isplitl [Hf3]; · iexact Hf3
    isplitl [Hb3]; · iexact Hb3
    isplitl [Ho]; · iexact Ho
    isplitl [Ht] <;> iassumption
  iintro ⟨Hf3, Hb3, Ho, Ht, Hr0⟩
  ihave Ht := (tS_cut m ρ c) $$ Ht
  icases Ht with ⟨Ht0, Ht⟩
  iapply (step_maxima m ρ K c) $$ [HO Ht Hrow T6 T3 C3 Hp6 Hp3]
  · isplitr; · iexact HI
    isplitr; · iexact Hlev
    isplitl [HO]; · iexact HO
    rw [AS_all, AW_all]
    isplitl [Ht Hrow T6 T3]
    · isplitl [Ht]; · iexact Ht
      isplitl [Hrow]; · iexact Hrow
      isplitl [T6] <;> iassumption
    isplitl [C3]; · iexact C3
    isplitl [Hp6] <;> iassumption
  rw [AD_all]
  iintro ⟨HO, Ht, Hrow, Hp6, Hp3⟩
  iapply (step_fin m ρ c) $$ [Hr0 Hrow Ho]
  · isplitr [Ho]
    · rw [rows_bwd]
      isplitl [Hr0] <;> iassumption
    iexact Ho
  iintro ⟨Hr, Ho⟩
  imod (close_all m ρ K c) $$ [HpB HP7 HP8 HP9 HP10 Hp6 Hp3 Hp17 Hp25] with Hz
  · isplitr; · iexact HI
    rw [pos_end]
    isplitl [HpB]; · iexact HpB
    isplitl [HP8]; · iexact HP8
    isplitl [HP9]; · iexact HP9
    isplitl [HP10]; · iexact HP10
    isplitl [HP7]; · iexact HP7
    isplitl [Hp6]; · iexact Hp6
    isplitl [Hp3]; · iexact Hp3
    isplitl [Hp17] <;> iassumption
  iapply Hk
  unfold runPost
  isplitl [HO]; · iexact HO
  isplitl [Hx]; · iexact Hx
  isplitl [Hw]; · iexact Hw
  isplitl [Ho]; · iexact Ho
  isplitl [Hf0 Hf1 Hf2 Hf3]
  · iapply (join_f (F := F) c)
    isplitl [Hf0]; · iexact Hf0
    isplitl [Hf1]; · iexact Hf1
    isplitl [Hf2]; · iexact Hf2
    iexists _; iexact Hf3
  isplitl [Hb0 Hb1 Hb2 Hb3]
  · iapply (join_b (F := F) c)
    isplitl [Hb0]; · iexact Hb0
    isplitl [Hb1]; · iexact Hb1
    isplitl [Hb2]; · iexact Hb2
    iexists _; iexact Hb3
  isplitl [Ht0 Ht]
  · iapply (tS_join m ρ c); isplitl [Ht0] <;> iassumption
  isplitl [Hr]; · iexact Hr
  iexact Hz

end Cert.KernelIdeal
-- ==== Proof.Body.lean ====
/- The body against what the region asks of it. -/
module

public import proofs.«01_k».proof.Proof.Run

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The region's data -/

/-- What a device's body starts from, its scratch buffers aside. -/
def start (c : Dev nD) : sProp 𝕄 :=
  iprop((∃ K, invs m ρ K ∗ (bigSep Finset.univ fun k : Fin 33 => posK c 0 k) ∗ myToks c) ∗ myCreds c ∗ levAts L lv)
/-- The scratch buffers. -/
def scr (c : Dev nD) : sProp 𝕄 := iprop(fW (F := F) c ∗ bW c ∗ tW c ∗ rW c)
/-- Before the body. -/
def Φ₀ (c : Dev nD) : sProp 𝕄 := iprop(start m ρ c ∗ scr c)
/-- After it. -/
def Φ₁ (c : Dev nD) : sProp 𝕄 := iprop(scr (F := F) c ∗ bigSep Finset.univ fun k : Fin 33 => semVal (kcell (c, k)) 0)

/-- The region's data: the arguments staged, the result left, the debts before and after. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV m ρ c
  Φ t := match t with
    | ⟨0, _⟩ => Φ₀ m ρ c
    | ⟨_ + 1, _⟩ => Φ₁ c
  q _ := fullShare
  owed t := match t with
    | ⟨0, _⟩ => Oat c 0
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt (0 : ℕ) t0_0.succ ∗ stg c cc0_stg0_0 (xstg m ρ c) ∗ stg c cc0_stg1_0 (wstg m ρ c) ∗ stg c cc0_stg2_0 (outV m ρ c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

/-- The body's run as the region asks for it. -/
theorem sound_body (c : Dev nD) :
    bodyPre m ρ c ⊢ wpc c bodyM (fun _ => bodyPost m ρ c) := by
  unfold bodyPre Φ₀ start scr
  iintro ⟨⟨⟨⟨%K, #HI, Hp, Ht⟩, Hc, #Hlev⟩, Hf, Hb, Htx, Hrx⟩, Ho, ⟨%dx, %fx, %hx, Hx⟩, ⟨%dw, %fw, %hw, Hw⟩, ⟨%d0, %fo, %ho, Hout⟩⟩
  rw [before_x] at hx
  rw [before_w] at hw
  subst hx hw
  unfold Dat.owesAt Pipeline.owesWithin
  icases Ho with ⟨%W, %hW, HO⟩
  rw [show (dats m ρ 0 c).owed t0_0.castSucc = Oat c 0 from rfl]
  iapply (run_body m ρ K c fun _ => bodyPost m ρ c) $$ [Hp Ht Hc Hf Hb Htx Hrx HO Hx Hw Hout]
  · isplitr; · iexact HI
    isplitr; · iexact Hlev
    unfold runPre
    isplitl [HO]; · unfold Ow; iexists W; iexact HO
    isplitl [Hx]; · unfold xS; iexact Hx
    isplitl [Hw]; · unfold wS; iexact Hw
    isplitl [Hout]; · unfold oS; iexists fo; iexact Hout
    isplitl [Hf]; · iexact Hf
    isplitl [Hb]; · iexact Hb
    isplitl [Htx]; · iexact Htx
    isplitl [Hrx]; · iexact Hrx
    isplitl [Hp]; · iexact Hp
    isplitl [Ht] <;> iassumption
  unfold runPost Ow xS wS oS
  iintro ⟨⟨%W', HO⟩, Hx, Hw, Hout, Hf, Hb, Htx, Hrx, Hz⟩
  imodintro
  rw [Oat_end]
  unfold bodyPost Φ₁ scr Dat.owesAt Pipeline.owesWithin
  rw [show (dats m ρ 0 c).owed t0_0.succ = 0 from rfl]
  isplitl [Hf Hb Htx Hrx Hz]
  · isplitl [Hf Hb Htx Hrx]
    · isplitl [Hf]; · iexact Hf
      isplitl [Hb]; · iexact Hb
      isplitl [Htx] <;> iassumption
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 60000 in
/-- The body meets the region's obligation. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8 cc0_scratch9) (fun _ => bodyPost m ρ c)
  rw [body_eq]
  exact sound_body m ρ c

end Cert.KernelIdeal
-- ==== Proof.Launch.lean ====
/- The launch of the eight devices and the run of the whole program. -/
module

public import proofs.«01_k».proof.Proof.Body
public import Idealize.ShloMosaic.Lib.Pipeline.CollectiveSegs

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- A device's own scoped semaphores: the thirty-two of the copies. -/
abbrev osd (k : Fin 32) : SemLoc sig := osem k.succ

theorem ownSemFacts : Pipeline.OwnSemFacts cfg0.spec osd := by decide +kernel

theorem share_eq (c : Dev nD) (w : Fin cfg0.W) : (dats m ρ 0 c).share w = fullShare := by unfold Dat.share; split <;> rfl

theorem osem_inj : ∀ k k' : Fin 33, osem k = osem k' → k = k' := by decide +kernel
theorem kcell_injective : Function.Injective (kcell : Dev nD × Fin 33 → GSem nD τ sig) := by
  rintro ⟨c, k⟩ ⟨c', k'⟩ h
  obtain rfl : c = c' := congrArg (fun g : GSem nD τ sig => g.1.1) h
  obtain rfl : k = k' := osem_inj k k' (congrArg Prod.snd h)
  rfl
/-- Every device's cells. -/
def ringCells : Finset (GSem nD τ sig) := Finset.univ.map ⟨kcell, kcell_injective⟩

/-- The token of a payment at a device. -/
abbrev tokOf (p : Dev nD × Du) : GSem nD τ sig × ℕ × Du := (cel p.1 p.2, rnd p.2, p.2)
theorem tokOf_injective : Function.Injective (tokOf : Dev nD × Du → GSem nD τ sig × ℕ × Du) := by
  rintro ⟨c, u⟩ ⟨c', u'⟩ h
  obtain rfl : u = u' := congrArg (fun x : GSem nD τ sig × ℕ × Du => x.2.2) h
  obtain rfl : c = c' := congrArg (fun x : GSem nD τ sig × ℕ × Du => x.1.1.1) h
  rfl
/-- Every payment's token. -/
def ringToks : Finset (GSem nD τ sig × ℕ × Du) := Finset.univ.map ⟨tokOf, tokOf_injective⟩

def u₀ : UU :=
  (initOf (Pipeline.cells cfgs cellOf_inj) (Pipeline.launchToks cfgs cellOf_inj), initOf ringCells ringToks)

/-- The tokens of the payments made to device `c`. -/
def toks (c : Dev nD) : sProp 𝕄 := bigSep Finset.univ fun u : Du => dutyTok ER (cel c u) (rnd u) u

/-- What the launch deals device `c`. -/
def G (c : Dev nD) : sProp 𝕄 :=
  iprop((bigSep Finset.univ fun k : Fin 33 => roundState ER (Rd m ρ) (kcell (c, k)) 0)
    ∗ (bigSep Finset.univ fun k : Fin 33 => posK c 0 k) ∗ (bigSep Finset.univ fun k : Fin 33 => reached ER (kcell (c, k)) 0) ∗ toks c)

/-- What the devices make of it together. -/
def G' (c : Dev nD) : sProp 𝕄 := iprop(∃ K, invs m ρ K ∗ (bigSep Finset.univ fun k : Fin 33 => posK c 0 k) ∗ myToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posK; simp only [bigSep_sep']
  isplitl [Hst']; · iexact Hst'
  isplitl [Hat']; · iexact Hat'
  isplitl [Hr'] <;> iassumption

theorem succ_all : (Finset.univ : Finset (Fin 33)).erase 0 = Finset.univ.image Fin.succ := by decide +kernel

theorem unscopedSems0_eq (c : Dev nD) : (unscopedSems0 c : sProp 𝕄) = semVal ((c : Thread nD τ), SemLoc.reg barS) 0 := by
  unfold unscopedSems0; rw [bigSep_eq_bigSepL_of_eq [SemLoc.reg barS] (by decide +kernel) (by decide)]; rfl

/-- A device's own semaphores at zero, the barrier with the copies'. -/
theorem sems_eq (c : Dev nD) :
    (bigSep Finset.univ fun k : Fin 33 => (semVal (kcell (c, k)) 0 : sProp 𝕄))
      = iprop(unscopedSems0 c ∗ Pipeline.ownSems0 (Ix := ℕ) (Name := ℕ) (U := UU) (Lvl := ℕ) (Val := Elt F) (τ := τ) osd c) := by
  rw [unscopedSems0_eq, bigSep_univ_at _ 0, succ_all, bigSep_image_of_injOn (fun a _ b _ h => Fin.succ_injective _ h)]
  rfl

theorem core_alloc (c : Dev nD) :
    iprop(Pipeline.ownSems0 (Ix := ℕ) (Name := ℕ) (U := UU) (Lvl := ℕ) (Val := Elt F) (τ := τ) osd c ∗ unscopedSems0 c ∗ G m ρ c)
      ⊢ |={Set.univ}=> iprop((bigSep Finset.univ fun k : Fin 33 => iprop(∃ κ : ℕ, cellInv ER (Rd m ρ) κ (kcell (c, k))))
          ∗ (bigSep Finset.univ fun k : Fin 33 => posK c 0 k) ∗ (bigSep Finset.univ fun k : Fin 33 => reached ER (kcell (c, k)) 0) ∗ toks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun k : Fin 33 => semVal (kcell (c, k)) 0) ∗ bigSep Finset.univ fun k : Fin 33 => roundState ER (Rd m ρ) (kcell (c, k)) 0)
      ⊢ (|={Set.univ}=> bigSep Finset.univ fun k : Fin 33 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Each token goes to the device that pays it. -/
theorem toks_around : (bigSep Finset.univ fun c : Dev nD => (toks c : sProp 𝕄)) = bigSep Finset.univ fun c : Dev nD => myToks c := by
  unfold toks myToks
  have swap : ∀ Φ : Dev nD → Du → sProp 𝕄, (bigSep Finset.univ fun c => bigSep Finset.univ fun u => Φ c u) = bigSep Finset.univ fun u => bigSep Finset.univ fun c => Φ c u := fun Φ => by
    have h := bigSep_univ_equiv (Equiv.prodComm Du (Dev nD)) (fun p : Dev nD × Du => Φ p.1 p.2)
    rw [bigSep_univ_prod, bigSep_univ_prod] at h
    exact h
  rw [swap, swap]
  exact bigSep_congr fun u _ => bigSep_univ_equiv (goesE u) (fun c : Dev nD => (dutyTok ER (cel c u) (rnd u) u : sProp 𝕄))

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (Rd m ρ) κ (kcell (c, k))))
          ∗ (bigSep Finset.univ fun k : Fin 33 => posK c 0 k) ∗ (bigSep Finset.univ fun k : Fin 33 => reached ER (kcell (c, k)) 0) ∗ toks c) : sProp 𝕄)
      ⊢ bigSep Finset.univ (G' m ρ) := by
  rw [bigSep_sep', bigSep_sep', bigSep_sep', ← bigSep_univ_prod (fun p : Dev nD × Fin 33 => iprop(∃ κ : ℕ, cellInv ER (Rd m ρ) κ (kcell p))),
    ← bigSep_univ_prod (fun p : Dev nD × Fin 33 => (reached ER (kcell p) 0 : sProp 𝕄)), toks_around]
  iintro ⟨HI, Hat, HR, Htok⟩
  ihave HK := (BI.bigSep_exists_pi Finset.univ (fun (p : Dev nD × Fin 33) (κ : ℕ) => (cellInv ER (Rd m ρ) κ (kcell p) : sProp 𝕄))) $$ HI
  icases HK with ⟨%K, HI⟩
  ihave HI := (Entails.of_eq (bigSep_sep' Finset.univ (fun p : Dev nD × Fin 33 => (cellInv ER (Rd m ρ) (K p) (kcell p) : sProp 𝕄)) (fun p => reached ER (kcell p) 0)).symm) $$ [HI HR]
  · isplitl [HI] <;> iassumption
  iapply (with_all (R := invs m ρ K) (Φ := fun c => iprop((bigSep Finset.univ fun k : Fin 33 => posK c 0 k) ∗ myToks c)) fun c _ => by
    unfold G'
    iintro ⟨H, Hr⟩
    iexists K
    isplitl [H] <;> iassumption)
  isplitl [HI]; · unfold invs; iexact HI
  rw [bigSep_sep']
  isplitl [Hat] <;> iassumption

theorem glob : (bigSep Finset.univ fun c => iprop(Pipeline.ownSems0 (Ix := ℕ) (Name := ℕ) (U := UU) (Lvl := ℕ) (Val := Elt F) (τ := τ) osd c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit dealt at the launch -/

/-- A device's debts at the launch. -/
def O₀ (c : Dev nD) : CellTallies nD τ sig ℕ := Oat c 0

/-- The credit of one payment to a device. -/
def crd (c : Dev nD) (u : Du) : sProp 𝕄 := cred (tallyAt (cel c u) (iot u) (amt u))

theorem creds_all (c : Dev nD) : (Pipeline.launchCred O₀ c : sProp 𝕄) ⊢ bigSep (Finset.Ico 0 28) fun i => crd c (pdu i) := by
  unfold O₀ Oat
  rw [Pipeline.launchCred_sum (Finset.Ico 0 28) (fun i d => tallyAt (cel (goes (pdu i) d) (pdu i)) (iot (pdu i)) (amt (pdu i))) c]
  exact bigSep_mono fun i _ => Pipeline.launchCred_tallyAt (semOf (pdu i)) (goes (pdu i)) (comes (pdu i)) (goes_comes (pdu i)) (comes_goes (pdu i)) (iot (pdu i)) (amt (pdu i)) c

/-- The numbers of the payments, kind by kind. -/
theorem kinds : (Finset.Ico 0 28 : Finset ℕ) = (Finset.univ : Finset (Fin 4 × Fin 7)).image (fun p =>
    match p.1 with | 0 => p.2.val | 1 => 7 + 2 * p.2.val | 2 => 7 + 2 * p.2.val + 1 | 3 => 21 + p.2.val) := by decide +kernel

theorem creds_kinds (c : Dev nD) : (bigSep (Finset.Ico 0 28) fun i => crd (F := F) c (pdu i))
    = iprop((bigSep Finset.univ fun j : Fin 7 => crd c (0, j)) ∗ (bigSep Finset.univ fun j : Fin 7 => crd c (1, j))
      ∗ (bigSep Finset.univ fun j : Fin 7 => crd c (2, j)) ∗ (bigSep Finset.univ fun j : Fin 7 => crd c (3, j))) := by
  have hinj : ∀ a b : Fin 4 × Fin 7, (match a.1 with | 0 => a.2.val | 1 => 7 + 2 * a.2.val | 2 => 7 + 2 * a.2.val + 1 | 3 => 21 + a.2.val)
      = (match b.1 with | 0 => b.2.val | 1 => 7 + 2 * b.2.val | 2 => 7 + 2 * b.2.val + 1 | 3 => 21 + b.2.val) → a = b := by decide +kernel
  rw [kinds, bigSep_image_of_injOn (fun a _ b _ h => hinj a b h), bigSep_univ_prod, bigSep4]
  simp only [pdu_bar, pdu_F, pdu_B, pdu_A]

theorem seven_units (g : GSem nD τ sig) : ∑ _j : Fin 7, tallyAt g 1 1 = (tallyAt g 1 7 : CellTallies nD τ sig ℕ) := by
  funext g'; ext i
  rw [Finset.sum_apply, Finsupp.finset_sum_apply]
  simp only [tallyAt_apply]
  split <;> simp

theorem creds (c : Dev nD) : (Pipeline.launchCred O₀ c : sProp 𝕄) ⊢ myCreds c := by
  refine (creds_all c).trans ?_
  rw [creds_kinds]
  have e : (bigSep Finset.univ fun j : Fin 7 => crd (F := F) c (0, j)) = cred (tallyAt ((c : Thread nD τ), .reg barS) 1 7) := by
    rw [← seven_units, Pipeline.cred_finsetSum]
    refine bigSep_congr fun j _ => ?_
    unfold crd; rw [amt_bar, iot_0]; rfl
  rw [e]
  exact BI.Entails.refl _

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr fW bW tW rW
  iintro ⟨Hs, -, Hr⟩
  isplitl [Hs] <;> iassumption

theorem phi1_exit (c : Dev nD) :
    (dats m ρ 0 c).Φ (Fin.last cfg0.N) ⊢ iprop(unscopedSems0 c ∗ Pipeline.ownSems0 osd c ∗ Pipeline.scopedRest cfg0.spec c) := by
  rw [show (dats m ρ 0 c).Φ (Fin.last cfg0.N) = Φ₁ c from rfl, scopedRest0_eq]
  unfold Φ₁ scr fW bW tW rW
  rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait c _ 0 0 (by decide) (iot_zero 0)
    · show levAts L lv ⊢ MayWait _ _ _ 0
      rw [MayWait_zero]; iintro -; iempintro

/-! ## The run -/

/-- What each window's array holds at the end. -/
def finalA (c : Dev nD) (w : Fin cfg0.W) : Buf (Elt F) ((cfg0.win w).arr.view.loc (c : Thread nD τ)) := (dats m ρ 0 c).arrAt w cfg0.N

/-- Every device's arrays hold their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the eight devices ends, with each array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal
-- ==== Proof.Algebra.lean ====
/- The arithmetic of the quantiser over the extended reals: the clip to the format's range changes nothing. -/
module

public import Idealize.ShloMosaic.PureOps.Ideal.Laws
public import Mathlib.Data.EReal.Operations
public import Mathlib.Data.EReal.Inv

@[expose] public section

noncomputable section

namespace Cert.Algebra

open Idealize.ShloMosaic

/-- The word `0x43E00000` is 448. -/
theorem word_448 : Ideal.ofBits .f32 0x43E00000#32 = ((448 : ℝ) : EReal) := by
  simp [Ideal.ofBits, Ideal.ieee]
  norm_num [← EReal.coe_mul]
/-- The word `0xC3E00000` is −448. -/
theorem word_neg_448 : Ideal.ofBits .f32 0xC3E00000#32 = ((-448 : ℝ) : EReal) := by
  simp [Ideal.ofBits, Ideal.ieee]
  norm_num [← EReal.coe_mul]
/-- The word `0xFF800000` is the least element. -/
theorem word_bot : Ideal.ofBits .f32 0xFF800000#32 = (⊥ : EReal) := by
  simp [Ideal.ofBits, Ideal.ieee]
/-- The word zero is zero. -/
theorem word_zero : Ideal.ofBits .f32 0x00000000#32 = (0 : EReal) := Ideal.ofBits_zero_f32

/-- An absolute value is not negative. -/
theorem abs_nonneg' (y : EReal) : 0 ≤ max y (-y) := by
  rcases le_total 0 y with h | h
  · exact le_max_of_le_left h
  · exact le_max_of_le_right (by simpa using EReal.neg_le_neg_iff.mpr h)

/-- The scale of a tensor whose greatest absolute value is `M`. -/
def scale (M : EReal) : EReal := Ideal.div M (Ideal.ofBits .f32 0x43E00000#32)

/-- With `|y| ≤ M`, clipping `y / scale` to `[-448, 448]` before scaling back changes nothing. -/
theorem clip_off (y M : EReal) (hy : max y (-y) ≤ M) :
    min (Ideal.ofBits .f32 0x43E00000#32) (max (Ideal.ofBits .f32 0xC3E00000#32) (Ideal.div y (scale M))) * scale M
      = Ideal.div y (scale M) * scale M := by
  have h0 : 0 ≤ M := (abs_nonneg' y).trans hy
  have hs : scale M = M * (((448 : ℝ)⁻¹ : ℝ) : EReal) := by
    unfold scale Ideal.div
    rw [word_448, if_neg (by norm_num), EReal.coe_inv]
  rw [word_448, word_neg_448]
  induction M using EReal.rec with
  | bot => simp at h0
  | top =>
    have ht : scale ⊤ = ⊤ := by rw [hs]; exact EReal.top_mul_coe_of_pos (by norm_num)
    have hd : Ideal.div y ⊤ = 0 := by unfold Ideal.div; rw [if_neg (by simp)]; simp
    rw [ht, hd]
    have e1 : max ((-448 : ℝ) : EReal) 0 = 0 := max_eq_right (by exact_mod_cast (by norm_num : (-448 : ℝ) ≤ 0))
    have e2 : min ((448 : ℝ) : EReal) 0 = 0 := min_eq_right (by exact_mod_cast (by norm_num : (0 : ℝ) ≤ 448))
    rw [e1, e2]
  | coe M =>
    have hM : 0 ≤ M := by exact_mod_cast h0
    have hy1 : y ≤ M := (le_max_left _ _).trans hy
    have hy2 : -y ≤ M := (le_max_right _ _).trans hy
    have hsr : scale (M : EReal) = ((M / 448 : ℝ) : EReal) := by rw [hs, ← EReal.coe_mul]; rfl
    rcases hM.eq_or_lt with h | h
    · subst h
      rw [hsr]; simp
    induction y using EReal.rec with
    | bot => simp at hy2
    | top => simp at hy1
    | coe y =>
      have hy1 : y ≤ M := by exact_mod_cast hy1
      have hy2 : -y ≤ M := by exact_mod_cast hy2
      have hp : 0 < M / 448 := by positivity
      have hd : Ideal.div (y : EReal) (scale (M : EReal)) = ((y / (M / 448) : ℝ) : EReal) := by
        rw [hsr]; unfold Ideal.div
        rw [if_neg (by exact_mod_cast hp.ne'), ← EReal.coe_inv, ← EReal.coe_mul]; rfl
      have hlo : (-448 : ℝ) ≤ y / (M / 448) := by rw [le_div_iff₀ hp]; linarith
      have hhi : y / (M / 448) ≤ 448 := by rw [div_le_iff₀ hp]; linarith
      rw [hd, max_eq_right (by exact_mod_cast hlo), min_eq_right (by exact_mod_cast hhi)]

end Cert.Algebra

end
-- ==== Proof.Value.lean ====
/- What the eight devices compute, read off as blocks of one product and its greatest absolute value. -/
module

public import proofs.«01_k».proof.Proof.Launch
public import proofs.«01_k».proof.Proof.Algebra
public import Idealize.ShloMosaic.Lib.MatmulPlain
public import Idealize.ShloMosaic.Lib.ValueIdx
public import Idealize.ShloMosaic.Lib.ValueLayout
public import Idealize.ShloMosaic.Lib.Layout
public import Idealize.ShloMosaic.PureOps.Reduce

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Idealize.ShloMosaic.Pipeline (Dat Cfg Window BodyObligation cellOf)

/-! ## The arrays at the region's ends -/

section
variable {F : FTy → Type} [FloatOps F] (m : (ℓ : Loc nD τ sig) → Buf (Elt F) ℓ) (ρ : Dev nD → PrngReg)

/-- A device's staged rows are its argument. -/
theorem xstg_eq (c : Dev nD) : xstg m ρ c = m ((c : Thread nD τ).loc main_arg0) := by
  funext i
  show m ((c : Thread nD τ).loc main_arg0) ((win0_0.blk (0 : Fin 1)).view.emb i) = m ((c : Thread nD τ).loc main_arg0) i
  refine congrArg _ (funext fun a => Fin.ext ?_)
  show 0 * _ + 1 * (i a).val = (i a).val
  omega
/-- A device's staged columns are its argument. -/
theorem wstg_eq (c : Dev nD) : wstg m ρ c = m ((c : Thread nD τ).loc main_arg1) := by
  funext i
  show m ((c : Thread nD τ).loc main_arg1) ((win0_1.blk (0 : Fin 1)).view.emb i) = m ((c : Thread nD τ).loc main_arg1) i
  refine congrArg _ (funext fun a => Fin.ext ?_)
  show 0 * _ + 1 * (i a).val = (i a).val
  omega
/-- The result array ends at what the body leaves. -/
theorem finalA_out (c : Dev nD) : finalA m ρ c (2 : Fin 3) = outV m ρ c := by
  have he : ∀ i, (win0_2.blk t0_0).view.emb i = i := fun i => funext fun a => Fin.ext (by
    show 0 * _ + 1 * (i a).val = (i a).val
    omega)
  refine (dats m ρ 0 c).arrAt_eq_of_cover (2 : Fin 3) (outV m ρ c) (fun t _ => ?_) (fun i => ?_)
  · have ht : t = t0_0 := Subsingleton.elim (α := Fin 1) _ _
    subst ht
    funext i
    show outV m ρ c i = outV m ρ c ((win0_2.blk t0_0).view.emb i)
    rw [he]
  · refine ⟨t0_0, flush0_2 _, ?_⟩
    show i ∈ Finset.univ.map (win0_2.blk t0_0).view.emb
    exact Finset.mem_map.mpr ⟨i, Finset.mem_univ _, he i⟩
end

/-! ## Maxima -/

/-- The greatest entry of an array of two axes is below `x` exactly when each entry is. -/
theorem greatest_le {a b : ℕ} (v : FVec Ideal ⟨2, ![a, b]⟩ .f32) (hc : (⟨2, ![a, b]⟩ : Shape).ShapeCasts ⟨3, ![1, a, b]⟩)
    (hr : (⟨3, ![1, a, b]⟩ : Shape).Reduces [1, 2] S1) (x : EReal) :
    (extractAt ![0, 0, 0] (shapeCast S1x1x1 (multiReduction .maximumf [1, 2] S1 (shapeCast ⟨3, ![1, a, b]⟩ v hc) 0xFF800000#32 hr (.inl rfl) rfl)
      shapeCasts_S1_S1x1x1) inpos_S1x1x1_p0_0_0 : EReal) ≤ x ↔ ∀ (r : Fin a) (j : Fin b), v (ix2 r j) ≤ x := by
  unfold extractAt shapeCast
  generalize Shape.reshapeEquiv _ _ = k
  have e := multiReduction_maximumf_eq_fold (shapeCast ⟨3, ![1, a, b]⟩ v hc) 0xFF800000#32 hr (.inl rfl) rfl k
  refine (iff_of_eq (congrArg (fun y : EReal => y ≤ x) e)).trans ?_
  show Finset.fold max (Ideal.ofBits .f32 0xFF800000#32) _ _ ≤ x ↔ _
  rw [Cert.Algebra.word_bot, Finset.fold_max_le]
  refine ⟨fun h r j => ?_, fun h => ⟨bot_le, fun i _ => ?_⟩⟩
  · refine le_of_eq_of_le (shapeCast_ab_1ab_apply v hc 0 r j).symm (h.2 (ix3 0 r j) ?_)
    refine Finset.mem_filter.mpr ⟨Finset.mem_univ _, funext fun d => ?_⟩
    match d with | ⟨0, _⟩ => exact Subsingleton.elim (α := Fin 1) _ _
  · rw [eq_ix3 i]
    exact le_of_eq_of_le (shapeCast_ab_1ab_apply v hc _ _ _) (h _ _)

/-- The greatest absolute value of a block. -/
def red (b : FVec Ideal S256x256 .f32) : EReal :=
  extractAt ![0, 0, 0] (shapeCast S1x1x1 (multiReduction .maximumf [1, 2] S1 (shapeCast S1x256x256 (absf b) shapeCasts_S256x256_S1x256x256) 0xFF800000#32
    reduces_S1x256x256_S1 (.inl rfl) rfl) shapeCasts_S1_S1x1x1) inpos_S1x1x1_p0_0_0

theorem red_le (b : FVec Ideal S256x256 .f32) (x : EReal) :
    red b ≤ x ↔ ∀ (r j : Fin 256), max (b (ix2 r j) : EReal) (-b (ix2 r j) : EReal) ≤ x :=
  greatest_le (absf b) shapeCasts_S256x256_S1x256x256 reduces_S1x256x256_S1 x

/-! ## The product -/

variable (m : (ℓ : Loc nD τ sig) → Buf (Elt Ideal) ℓ) (ρ : Dev nD → PrngReg)
variable (X : (⟨2, ![4096, 4096]⟩ : Shape).Idx → EReal) (W : (⟨2, ![4096, 2048]⟩ : Shape).Idx → EReal)

/-- The whole product. -/
def prod (i : Fin 4096) (n : Fin 2048) : EReal := ∑ k : Fin 4096, X (ix2 i k) * W (ix2 k n)

/-- A row of device `o`'s block of `X`, in the whole. -/
def row (o : Dev nD) (r : Fin 512) : Fin 4096 := ⟨o.val * 512 + r.val, by have := o.isLt; have : o.val < 8 := o.isLt; omega⟩
/-- A column of device `c`'s block of `W`, in the whole. -/
def col (c : Dev nD) (j : Fin 256) : Fin 2048 := ⟨c.val * 256 + j.val, by have : c.val < 8 := c.isLt; omega⟩
/-- A row of a top half. -/
def up (r : Fin 256) : Fin 512 := ⟨r.val, by omega⟩
/-- A row of a bottom half. -/
def dn (r : Fin 256) : Fin 512 := ⟨256 + r.val, by omega⟩

/-- Each device holds its blocks of `X` and `W`. -/
def Holds : Prop := ∀ c : Dev nD,
  m ((c : Thread nD τ).loc main_arg0) = Layout.block ⟨2, ![512, 4096]⟩ ⟨2, ![4096, 4096]⟩ 0 8 c X
  ∧ m ((c : Thread nD τ).loc main_arg1) = Layout.block ⟨2, ![4096, 256]⟩ ⟨2, ![4096, 2048]⟩ 1 8 c W

variable {m X W} (H : Holds m X W)
include H

theorem x_at (c : Dev nD) (r : Fin 512) (k : Fin 4096) : xstg m ρ c (ix2 r k) = X (ix2 (row c r) k) := by
  rw [xstg_eq, (H c).1]
  refine congrArg X (funext fun a => Fin.ext ?_)
  match a with | ⟨0, _⟩ => rfl | ⟨1, _⟩ => rfl
theorem w_at (c : Dev nD) (k : Fin 4096) (j : Fin 256) : Wv m ρ c (ix2 k j) = W (ix2 k (col c j)) := by
  unfold Wv k0_pay4
  rw [wstg_eq, (H c).2]
  refine (congrFun (shapeCast_self _ _) _).trans (congrArg W (funext fun a => Fin.ext ?_))
  match a with | ⟨0, _⟩ => rfl | ⟨1, _⟩ => rfl
theorem top_at (o : Dev nD) (r : Fin 256) (k : Fin 4096) : topV m ρ o (ix3 0 r k) = X (ix2 (row o (up r)) k) := by
  unfold topV k0_pay2
  refine (shapeCast_ab_1ab_apply _ _ _ _ _).trans ((congrFun (shapeCast_self _ _) _).trans ?_)
  refine Eq.trans ?_ (x_at ρ H o (up r) k)
  show xstg m ρ o _ = _
  refine congrArg (xstg m ρ o) (funext fun a => Fin.ext ?_)
  match a with
  | ⟨0, _⟩ => show 0 + 1 * r.val = r.val; omega
  | ⟨1, _⟩ => show 0 + 1 * k.val = k.val; omega
theorem bot_at (o : Dev nD) (r : Fin 256) (k : Fin 4096) : botV m ρ o (ix3 0 r k) = X (ix2 (row o (dn r)) k) := by
  unfold botV k0_pay3
  refine (shapeCast_ab_1ab_apply _ _ _ _ _).trans ((congrFun (shapeCast_self _ _) _).trans ?_)
  refine Eq.trans ?_ (x_at ρ H o (dn r) k)
  show xstg m ρ o _ = _
  refine congrArg (xstg m ρ o) (funext fun a => Fin.ext ?_)
  match a with
  | ⟨0, _⟩ => show 256 + 1 * r.val = 256 + r.val; omega
  | ⟨1, _⟩ => show 0 + 1 * k.val = k.val; omega

omit H in
/-- A block of rows times the weights, at an entry. -/
theorem pay9_at (Wc : FVec Ideal S4096x256 .f32) (V : Vec Ideal S1x256x4096 .f32) (r j : Fin 256) :
    k0_pay9 Wc V (ix2 r j) = ∑ k : Fin 4096, (V (ix3 0 r k) : EReal) * (Wc (ix2 k j) : EReal) := by
  unfold k0_pay9
  refine (Ideal.matmul_plain_apply (M := 256) (K := 4096) (N := 256) (some .fp32) _ _ _ r j).trans ?_
  show Ideal.ofBits .f32 0x00000000#32 + _ = _
  rw [Cert.Algebra.word_zero, zero_add]
  exact Finset.sum_congr rfl fun k _ => congrArg (· * (Wc (ix2 k j) : EReal)) (shapeCast_1ab_ab_apply V _ r k)

theorem blkT (c o : Dev nD) (r j : Fin 256) : k0_pay9 (Wv m ρ c) (topV m ρ o) (ix2 r j) = prod X W (row o (up r)) (col c j) := by
  rw [pay9_at]
  exact Finset.sum_congr rfl fun k _ => by rw [top_at ρ H, w_at ρ H]
theorem blkB (c o : Dev nD) (r j : Fin 256) : k0_pay9 (Wv m ρ c) (botV m ρ o) (ix2 r j) = prod X W (row o (dn r)) (col c j) := by
  rw [pay9_at]
  exact Finset.sum_congr rfl fun k _ => by rw [bot_at ρ H, w_at ρ H]

/-- The product a device holds before rounding is its columns of the whole. -/
theorem Yv_at (c : Dev nD) (i : Fin 4096) (j : Fin 256) : Yv m ρ c (ix2 i j) = prod X W i (col c j) := by
  unfold Yv
  dsimp only
  split
  · rename_i h
    have h : i.val % 512 < 256 := h
    rw [blkT ρ H]
    refine congrArg (fun a => prod X W a (col c j)) (Fin.ext ?_)
    show i.val / 512 * 512 + i.val % 256 = i.val
    omega
  · rename_i h
    have h : ¬ i.val % 512 < 256 := h
    rw [blkB ρ H]
    refine congrArg (fun a => prod X W a (col c j)) (Fin.ext ?_)
    show i.val / 512 * 512 + (256 + i.val % 256) = i.val
    omega

/-! ## The greatest absolute value -/

/-- Device `c`'s columns of the product, on device `o`'s rows, lie in `[-x, x]`. -/
def Below (X : (⟨2, ![4096, 4096]⟩ : Shape).Idx → EReal) (W : (⟨2, ![4096, 2048]⟩ : Shape).Idx → EReal) (c o : Dev nD) (f : Fin 256 → Fin 512) (x : EReal) : Prop :=
  ∀ r j : Fin 256, max (prod X W (row o (f r)) (col c j)) (-prod X W (row o (f r)) (col c j)) ≤ x

theorem redT (c o : Dev nD) (x : EReal) : red (k0_pay9 (Wv m ρ c) (topV m ρ o)) ≤ x ↔ Below X W c o up x := by
  rw [red_le]; unfold Below; simp only [blkT ρ H]
theorem redB (c o : Dev nD) (x : EReal) : red (k0_pay9 (Wv m ρ c) (botV m ρ o)) ≤ x ↔ Below X W c o dn x := by
  rw [red_le]; unfold Below; simp only [blkB ρ H]

omit H in
/-- The larger of three, taken twice. -/
theorem max_twice (y a b : EReal) : (Scalar.maximumf (F := Ideal) (φ := .f32) (Scalar.maximumf (F := Ideal) (φ := .f32) y a) b : EReal) = max (max y a) b := rfl
omit H in
/-- A value spread over a row, at an entry. -/
theorem spread (y : EReal) (h : S128.ShapeCasts S1x128) (i : S1x128.Idx) : (shapeCast S1x128 (broadcast S128 y) h i : EReal) = y := rfl
omit H in
/-- One hop's step of the running maximum. -/
theorem pay11_eq (Wc : FVec Ideal S4096x256 .f32) (y : EReal) (T B : Vec Ideal S1x256x4096 .f32) :
    (k0_pay11 Wc y T B : EReal) = max (max y (red (k0_pay9 Wc T))) (red (k0_pay9 Wc B)) :=
  Eq.trans (b := (Scalar.maximumf (F := Ideal) (φ := .f32) (Scalar.maximumf (F := Ideal) (φ := .f32) y (red (k0_pay9 Wc T))) (red (k0_pay10 Wc B)) : EReal))
    (by unfold k0_pay11 red; rfl) (max_twice _ _ _)
omit H in
/-- The last hop's step, spread over a row. -/
theorem pay31_eq (Wc : FVec Ideal S4096x256 .f32) (y : EReal) (p : FVec Ideal S256x256 .f32) (B : Vec Ideal S1x256x4096 .f32) (k : Fin 128) :
    (k0_pay31 Wc y p B (ix2 0 k) : EReal) = max (max y (red p)) (red (k0_pay9 Wc B)) := by
  have e : k0_pay31 Wc y p B = shapeCast S1x128 (broadcast S128 (Scalar.maximumf (F := Ideal) (φ := .f32) (Scalar.maximumf (F := Ideal) (φ := .f32) y (red p)) (red (k0_pay30 Wc B)))) shapeCasts_S128_S1x128 := by
    unfold k0_pay31 red; rfl
  rw [e]
  exact (spread _ _ _).trans (max_twice _ _ _)

/-- The running maximum before hop `h`: the greatest of the blocks met so far, and zero. -/
theorem mx_le (c : Dev nD) (x : EReal) : ∀ h : ℕ, (mx m ρ c h : EReal) ≤ x ↔ 0 ≤ x ∧ ∀ g < h, Below X W c (orgF g c) up x ∧ Below X W c (orgB g c) dn x
  | 0 => by
    show Ideal.ofBits .f32 0x00000000#32 ≤ x ↔ _
    rw [Cert.Algebra.word_zero]; simp
  | h + 1 => by
    have e : (mx m ρ c (h + 1) : EReal) = max (max (mx m ρ c h) (red (k0_pay9 (Wv m ρ c) (topV m ρ (orgF h c))))) (red (k0_pay9 (Wv m ρ c) (botV m ρ (orgB h c)))) := pay11_eq _ _ _ _
    rw [e, max_le_iff, max_le_iff, mx_le c x h, redT ρ H, redB ρ H]
    constructor
    · rintro ⟨⟨⟨h0, hg⟩, hT⟩, hB⟩
      refine ⟨h0, fun g hlt => ?_⟩
      rcases Nat.lt_succ_iff_lt_or_eq.mp hlt with hlt | rfl
      · exact hg g hlt
      · exact ⟨hT, hB⟩
    · rintro ⟨h0, hg⟩
      exact ⟨⟨⟨h0, fun g hlt => hg g (by omega)⟩, (hg h (by omega)).1⟩, (hg h (by omega)).2⟩

/-- A device's own maximum is that of its columns. -/
theorem tx_le (c : Dev nD) (k : Fin 128) (x : EReal) : (txV m ρ c (ix2 0 k) : EReal) ≤ x
    ↔ 0 ≤ x ∧ ∀ g < 8, Below X W c (orgF g c) up x ∧ Below X W c (orgB g c) dn x := by
  have e : (txV m ρ c (ix2 0 k) : EReal) = mx m ρ c (7 + 1) := (pay31_eq _ _ _ _ k).trans (pay11_eq _ _ _ _).symm
  rw [e, mx_le ρ H]

omit H in
theorem orgF_all : ∀ c o : Dev nD, ∃ g < 8, orgF g c = o := by decide +kernel
omit H in
theorem orgB_all : ∀ c o : Dev nD, ∃ g < 8, orgB g c = o := by decide +kernel

omit H in
theorem row_cases (i : Fin 4096) : ∃ o : Dev nD, ∃ r : Fin 256, row o (up r) = i ∨ row o (dn r) = i := by
  refine ⟨⟨i.val / 512, by have := i.isLt; show _ < 8; omega⟩, ⟨i.val % 256, Nat.mod_lt _ (by decide)⟩, ?_⟩
  by_cases h : i.val % 512 < 256
  · left; refine Fin.ext ?_; show i.val / 512 * 512 + i.val % 256 = i.val; omega
  · right; refine Fin.ext ?_; show i.val / 512 * 512 + (256 + i.val % 256) = i.val; omega
omit H in
theorem col_cases (n : Fin 2048) : ∃ c : Dev nD, ∃ j : Fin 256, col c j = n :=
  ⟨⟨n.val / 256, by have := n.isLt; show _ < 8; omega⟩, ⟨n.val % 256, Nat.mod_lt _ (by decide)⟩, Fin.ext (by show n.val / 256 * 256 + n.val % 256 = n.val; omega)⟩

/-- The maximum all devices agree on. -/
def gmx (v : S8x128.Idx → EReal) : EReal :=
  extractAt ![0, 0, 0] (shapeCast S1x1x1 (multiReduction (F := Ideal) .maximumf [1, 2] S1 (shapeCast S1x8x128 v shapeCasts_S8x128_S1x8x128) 0xFF800000#32
    reduces_S1x8x128_S1 (.inl rfl) rfl) shapeCasts_S1_S1x1x1) inpos_S1x1x1_p0_0_0

/-- The maximum the devices agree on is the greatest absolute value of the whole product. -/
theorem gmx_le (x : EReal) : gmx (rxV m ρ) ≤ x ↔ ∀ (i : Fin 4096) (n : Fin 2048), max (prod X W i n) (-prod X W i n) ≤ x := by
  refine (greatest_le (rxV m ρ) shapeCasts_S8x128_S1x8x128 reduces_S1x8x128_S1 x).trans ⟨fun h i n => ?_, fun h c k => ?_⟩
  · obtain ⟨c, j, rfl⟩ := col_cases n
    obtain ⟨o, r, hr⟩ := row_cases i
    have h8 := ((tx_le ρ H c 0 x).mp (h c 0)).2
    rcases hr with rfl | rfl
    · obtain ⟨g, hg, rfl⟩ := orgF_all c o
      exact (h8 g hg).1 r j
    · obtain ⟨g, hg, rfl⟩ := orgB_all c o
      exact (h8 g hg).2 r j
  · refine (tx_le ρ H c k x).mpr ⟨(Cert.Algebra.abs_nonneg' _).trans (h 0 0), fun g _ => ⟨fun r j => h _ _, fun r j => h _ _⟩⟩

/-- What device `c` returns, at an entry. -/
theorem out_at (c : Dev nD) (i : Fin 4096) (j : Fin 256) :
    outV m ρ c (ix2 i j) = Ideal.div (prod X W i (col c j)) (Cert.Algebra.scale (gmx (rxV m ρ))) * Cert.Algebra.scale (gmx (rxV m ρ)) := by
  have e : outV m ρ c (ix2 i j) = Ideal.div (shapeCast S4096x256 (Yv m ρ c) shapeCasts_S4096x256_S4096x256 (ix2 i j)) (Cert.Algebra.scale (gmx (rxV m ρ))) * Cert.Algebra.scale (gmx (rxV m ρ)) := rfl
  rw [e, shapeCast_self, Yv_at ρ H]

end Cert.KernelIdeal
-- ==== Proof.Ref.lean ====
/- What the reference's run leaves: the product over its scale, clipped, times the scale, at every entry. -/
module

public import proofs.«01_k».proof.Proof.Gen.ReferenceIdeal
public import proofs.«01_k».proof.Proof.Gen.ReferenceIdeal.Frame
public import proofs.«01_k».proof.Proof.Algebra
public import Idealize.ShloMosaic.Lib.Claim
public import Idealize.ShloMosaic.Lib.MatmulPlain
public import Idealize.ShloMosaic.Lib.ValueIdx
public import Idealize.ShloMosaic.Lib.Pipeline.Value
public import Idealize.ShloMosaic.PureOps.Reduce

@[expose] public section

noncomputable section

namespace Cert.ReferenceIdeal

open Idealize.ShloMosaic Idealize.SL.Sem Idealize.ShloMosaic.ValueIdx Cert.ReferenceIdeal.Gen

/-! ## The arrays the quantiser reads -/

section
variable {F : FTy → Type} [FloatOps F] (m : (ℓ : Loc nD τ sig) → Buf (Elt F) ℓ)

/-- The product the quantiser reads. -/
theorem V_product (c : Dev nD) : V m c main_v0
    = Host.dotGeneral dot_S4096x4096_S4096x2048_S4096x2048_1_0_0_1_n_n none (m ((c.tc : Thread nD τ).loc main_arg0)) (m ((c.tc : Thread nD τ).loc main_arg1)) := by
  entry_read
  rfl
/-- The greatest absolute value the quantiser reads. -/
theorem V_greatest (c : Dev nD) : V m c main_v3
    = shapeCast S1x1 (Host.reduce FloatOps.maximumf (Host.absf (V m c main_v0)) (constant S_ .f32 0xFF800000#32) reducesTo_S4096x2048_S_d0_1 h_S_) shapeCasts_S_S1x1 := by
  entry_read
  rfl

omit [FloatOps F] in
/-- The first window reads its whole array. -/
theorem whole_0 (t : Fin cfg0.N) (f : S4096x2048.Idx → F .f32) : ((cfg0.win 0).blk t).view.read (Elt F) f = f := by
  funext i
  show f ((win0_0.blk t).view.emb i) = f i
  refine congrArg f (funext fun a => Fin.ext ?_)
  show 0 * _ + 1 * (i a).val = (i a).val
  omega
omit [FloatOps F] in
/-- The second window reads its whole array. -/
theorem whole_1 (t : Fin cfg0.N) (f : S1x1.Idx → F .f32) : ((cfg0.win 1).blk t).view.read (Elt F) f = f := by
  funext i
  show f ((win0_1.blk t).view.emb i) = f i
  refine congrArg f (funext fun a => Fin.ext ?_)
  show 0 * _ + 1 * (i a).val = (i a).val
  omega
/-- The product's block is the product. -/
theorem blk_product (c : Dev nD) (t : Fin cfg0.N) : iblk m c 0 t = V m c main_v0 := whole_0 t _
/-- The greatest absolute value's block is it. -/
theorem blk_greatest (c : Dev nD) (t : Fin cfg0.N) : iblk m c 1 t = V m c main_v3 := whole_1 t _

/-- The body's output is the quantiser's value. -/
theorem out_eq (x : Vec F S4096x2048 .f32) (a : Vec F S1x1 .f32) : out0_2 x a = k0_pay1 a x := by
  have h1 : View.ld a r0_0 = a := View.ld_unit_zero (by decide) _ _
  have h2 : View.ld x r0_1 = x := View.ld_unit_zero (by decide) _ _
  unfold out0_2
  rw [h1, h2]
  exact View.canon_unit_zero (Val := Elt F) (by decide) _ _

/-- The result array ends at the quantiser's value of the product. -/
theorem arr_out (c : Dev nD) : (dats m 0 c).arrAt (2 : Fin 3) cfg0.N = k0_pay1 (V m c main_v3) (V m c main_v0) := by
  have he : ∀ i, (win0_2.blk t0_0).view.emb i = i := fun i => funext fun a => Fin.ext (by
    show 0 * _ + 1 * (i a).val = (i a).val
    omega)
  refine (dats m 0 c).arrAt_eq_of_cover (2 : Fin 3) _ (fun t _ => ?_) (fun i => ?_)
  · obtain rfl := fin_N0 t
    have ha : (dats m 0 c).after (2 : Fin 3) t0_0 = k0_pay1 (V m c main_v3) (V m c main_v0) := by
      rw [after0_2, blk_product, blk_greatest, out_eq]
    funext i
    unfold Pipeline.Dat.flushed
    rw [ha]
    show k0_pay1 (V m c main_v3) (V m c main_v0) i = k0_pay1 (V m c main_v3) (V m c main_v0) ((win0_2.blk t0_0).view.emb i)
    rw [he]
  · refine ⟨t0_0, flush0_2 _, ?_⟩
    show i ∈ Finset.univ.map (win0_2.blk t0_0).view.emb
    exact Finset.mem_map.mpr ⟨i, Finset.mem_univ _, he i⟩
end

/-! ## At extended reals -/

variable (m : (ℓ : Loc nD τ sig) → Buf (Elt Ideal) ℓ)

/-- The reference's two arguments. -/
abbrev xs : (⟨2, ![4096, 4096]⟩ : Shape).Idx → EReal := m (((0 : Dev nD).tc : Thread nD τ).loc main_arg0)
abbrev ws : (⟨2, ![4096, 2048]⟩ : Shape).Idx → EReal := m (((0 : Dev nD).tc : Thread nD τ).loc main_arg1)

/-- The product. -/
def product : S4096x2048.Idx → EReal := V m 0 main_v0

/-- The product at an entry. -/
theorem product_at (i : Fin 4096) (n : Fin 2048) : product m (ix2 i n) = ∑ k : Fin 4096, xs m (ix2 i k) * ws m (ix2 k n) := by
  unfold product
  rw [V_product]
  simp only [Host.dotGeneral]
  refine (congrFun (Ideal.dotGeneral_def _ _ _ _ _) _).trans ?_
  refine (Ideal.matmul_plain_apply (M := 4096) (K := 4096) (N := 2048) (φ₁ := .f32) (φ₂ := .f32) none _ _ _ i n).trans ?_
  exact zero_add _

/-- The greatest absolute value. -/
def greatest : EReal := V m 0 main_v3 (ix2 0 0)

/-- The greatest absolute value of an array is below `x` exactly when every absolute value is. -/
theorem fold_le (v : FVec Ideal S4096x2048 .f32) (k : S_.Idx) (x : EReal) :
    (Host.reduce (FloatOps.maximumf (F := Ideal) (φ := .f32)) (Host.absf v) (constant (F := Ideal) S_ .f32 0xFF800000#32) reducesTo_S4096x2048_S_d0_1 h_S_ k : EReal) ≤ x
      ↔ ∀ (i : Fin 4096) (n : Fin 2048), max (v (ix2 i n) : EReal) (-(v (ix2 i n) : EReal)) ≤ x := by
  have e := Host.reduce_eq_fold (FloatOps.maximumf (F := Ideal) (φ := .f32)) (Host.absf v) (constant (F := Ideal) S_ .f32 0xFF800000#32) reducesTo_S4096x2048_S_d0_1 h_S_ k
  refine (iff_of_eq (congrArg (fun y : EReal => y ≤ x) e)).trans ?_
  show Finset.fold max (Ideal.ofBits .f32 0xFF800000#32) _ _ ≤ x ↔ _
  rw [Cert.Algebra.word_bot, Finset.fold_max_le]
  refine ⟨fun h r j => ?_, fun h => ⟨bot_le, fun i _ => ?_⟩⟩
  · exact h.2 (ix2 r j) (Finset.mem_filter.mpr ⟨Finset.mem_univ _, funext fun d => d.elim0⟩)
  · rw [eq_ix2 i]
    exact h _ _

/-- The reference's is below `x` exactly when every absolute value of its product is. -/
theorem greatest_le (x : EReal) : greatest m ≤ x ↔ ∀ (i : Fin 4096) (n : Fin 2048), max (product m (ix2 i n)) (-product m (ix2 i n)) ≤ x := by
  unfold greatest
  rw [V_greatest]
  exact fold_le _ _ x

/-- The quantiser at an entry: over the scale, clipped, times the scale. -/
theorem quant_at (a : Vec Ideal S1x1 .f32) (y : Vec Ideal S4096x2048 .f32) (i : S4096x2048.Idx) :
    (k0_pay1 a y i : EReal) = min (Ideal.ofBits .f32 0x43E00000#32) (max (Ideal.ofBits .f32 0xC3E00000#32) (Ideal.div (y i) (Cert.Algebra.scale (a (ix2 0 0))))) * Cert.Algebra.scale (a (ix2 0 0)) := by
  unfold k0_pay1
  rw [shapeCast_self, shapeCast_self]
  have hb : ∀ z : FVec Ideal S1x1 .f32, broadcastTo S4096x2048 z broadcasts_S1x1_S4096x2048 i = z (ix2 0 0) := fun z => by
    refine broadcastTo_apply _ _ _ _ (fun d => ?_)
    match d with | ⟨0, _⟩ => rfl | ⟨1, _⟩ => rfl
  have e : ∀ b : FVec Ideal S4096x2048 .f32, b i = Cert.Algebra.scale (a (ix2 0 0)) →
      (mulf (extf .f32 (truncf .fp8e4m3 (minimumf (broadcast S4096x2048 (Scalar.ofBits (F := Ideal) .f32 0x43E00000#32))
        (maximumf (broadcast S4096x2048 (Scalar.ofBits (F := Ideal) .f32 0xC3E00000#32)) (divf y b))) bitsLt_fp8e4m3_f32) bitsLt_fp8e4m3_f32) b i : EReal)
      = min (Ideal.ofBits .f32 0x43E00000#32) (max (Ideal.ofBits .f32 0xC3E00000#32) (Ideal.div (y i) (Cert.Algebra.scale (a (ix2 0 0))))) * Cert.Algebra.scale (a (ix2 0 0)) :=
    fun b hb => by rw [← hb]; rfl
  exact e _ ((hb _).trans rfl)

/-- What the reference returns. -/
def result : (⟨2, ![4096, 2048]⟩ : Shape).Idx → EReal := k0_pay1 (V m 0 main_v3) (V m 0 main_v0)

/-- What the reference returns, at an entry: clipping changes nothing. -/
theorem result_at (i : Fin 4096) (n : Fin 2048) :
    result m (ix2 i n) = Ideal.div (∑ k : Fin 4096, xs m (ix2 i k) * ws m (ix2 k n)) (Cert.Algebra.scale (greatest m)) * Cert.Algebra.scale (greatest m) := by
  rw [← product_at]
  exact (quant_at _ _ _).trans (Cert.Algebra.clip_off _ _ ((greatest_le m _).mp le_rfl i n))

/-- The reference's run ends at `result`, its arguments as they were. -/
theorem run_result (ρ : Dev nD → PrngReg) : θ_run defs (onTc (τ := τ) (main (F := Ideal))) ⟨m, fun _ => 0, ρ⟩ (fun r =>
    r.2.mem (((0 : Dev nD).tc : Thread nD τ).loc main_v4) = result m
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)) :=
  (θ_run defs _ _).mono (fun r h => ⟨((h 0).1 (2 : Fin 3)).trans (arr_out m 0),
    ((h 0).2 main_arg0 (by decide)).trans (V_main_arg0 m 0), ((h 0).2 main_arg1 (by decide)).trans (V_main_arg1 m 0)⟩) (run_main m ρ)

end Cert.ReferenceIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The run of the module's text leaves the arguments as they were and every semaphore at zero, over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : Cert.KernelIdeal.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c 0).trans (Cert.KernelIdeal.finalA_x m ρ c), (h c 1).trans (Cert.KernelIdeal.finalA_w m ρ c)⟩

/-- The two bodies' tables are the same text. -/
theorem bodies_eq : (Cert.Kernel.defs₀ (F := Bits)) = Cert.KernelIdeal.defs₀ (F := Bits) := by
  unfold Cert.Kernel.defs₀ Cert.KernelIdeal.defs₀
  refine congrArg Defs.onTc ?_
  funext l a
  obtain ⟨l, hl⟩ := l
  match l, hl, a with
  | 0, _, (t, s) => rfl
/-- The two programs' tables are the same text. -/
theorem tables_eq : (Cert.Kernel.defs (F := Bits)) = Cert.KernelIdeal.defs (F := Bits) :=
  congrArg (Pipeline.defs (Cert.KernelIdeal.pcfgs (F := Bits))) bodies_eq

/-- The frame of the module as printed: its text is the other program's, read at bits. -/
theorem frame_kernel : Cert.quiescent_Kernel := fun m ρ _ => by
  rw [tables_eq]
  exact (θ_run Cert.KernelIdeal.defs _ _).mono (fun r h => ⟨fun c => frame_any m ρ r h.1 c, h.2⟩) (Cert.KernelIdeal.run_main (F := Bits) m ρ)

/-- The frame of the module at extended reals. -/
theorem frame_ideal : Cert.quiescent_KernelIdeal := fun m ρ _ =>
  (θ_run Cert.KernelIdeal.defs _ _).mono (fun r h => ⟨fun c => frame_any m ρ r h.1 c, h.2⟩) (Cert.KernelIdeal.run_main (F := Ideal) m ρ)

/-- Each device's result is its columns of the reference's. -/
theorem blocks (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (H : Cert.KernelIdeal.Holds m (Cert.ReferenceIdeal.xs m') (Cert.ReferenceIdeal.ws m')) (c : Dev Cert.KernelIdeal.nD) :
    Cert.KernelIdeal.outV m ρ c = Layout.block ⟨2, ![4096, 256]⟩ ⟨2, ![4096, 2048]⟩ 1 8 c (Cert.ReferenceIdeal.result m') := by
  have hM : Cert.KernelIdeal.gmx (Cert.KernelIdeal.rxV m ρ) = Cert.ReferenceIdeal.greatest m' :=
    eq_of_forall_ge_iff fun x => by
      rw [Cert.KernelIdeal.gmx_le ρ H, Cert.ReferenceIdeal.greatest_le]
      simp only [Cert.ReferenceIdeal.product_at, Cert.KernelIdeal.prod]
  funext i
  rw [ValueIdx.eq_ix2 i]
  refine (Cert.KernelIdeal.out_at ρ H c (i 0) (i 1)).trans ?_
  rw [hM]
  refine (Cert.ReferenceIdeal.result_at m' (i 0) (Cert.KernelIdeal.col c (i 1))).symm.trans ?_
  refine congrArg (Cert.ReferenceIdeal.result m') (funext fun a => Fin.ext ?_)
  match a with | ⟨0, _⟩ => rfl | ⟨1, _⟩ => rfl

/-- The value claim: the devices' results are the reference's result cut by columns. -/
theorem value : Cert.algebraic_KernelIdeal_ReferenceIdeal := fun m ρ m' ρ' _ H =>
  ⟨Cert.ReferenceIdeal.result m',
    (θ_run Cert.KernelIdeal.defs _ _).mono (fun r h c => ⟨((h.1 c 2).trans (Cert.KernelIdeal.finalA_out m ρ c)).trans (blocks m ρ m' H c), frame_any m ρ r h.1 c⟩)
      (Cert.KernelIdeal.run_main (F := Ideal) m ρ),
    Cert.ReferenceIdeal.run_result m' ρ'⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, value⟩

end Cert.Proof

end
